-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_v10) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x128x7168 : Shape := ⟨3, ![2, 128, 7168]⟩
abbrev S2x128 : Shape := ⟨2, ![2, 128]⟩
abbrev S2x128x18432 : Shape := ⟨3, ![2, 128, 18432]⟩
abbrev S7168x18432 : Shape := ⟨2, ![7168, 18432]⟩
abbrev S7168 : Shape := ⟨1, ![7168]⟩
abbrev S7168x32 : Shape := ⟨2, ![7168, 32]⟩
abbrev S32x18432 : Shape := ⟨2, ![32, 18432]⟩
abbrev S_ : Shape := ⟨0, ![]⟩

class Facts : Prop where
  natLt_8_32 : 8 < 32
  bcast_S_S2x128x7168 : S_.BroadcastsInDim S2x128x7168 (![] : Fin 0 → Fin S2x128x7168.rank)
  bcast_S_S2x128 : S_.BroadcastsInDim S2x128 (![] : Fin 0 → Fin S2x128.rank)
  bcast_S_S2x128x18432 : S_.BroadcastsInDim S2x128x18432 (![] : Fin 0 → Fin S2x128x18432.rank)
  bcast_S_S7168x32 : S_.BroadcastsInDim S7168x32 (![] : Fin 0 → Fin S7168x32.rank)
  bcast_S_S32x18432 : S_.BroadcastsInDim S32x18432 (![] : Fin 0 → Fin S32x18432.rank)

variable [Facts]

def fn_part1 {F : FTy → Type} [FloatOps F] (main_arg7 : FVec F S32x18432 .bf16) (main_v4 : IVec S2x128x7168 1) (main_v7 : IVec S2x128 1) (main_v12 : IVec S2x128x18432 1) (main_v15 : IVec S2x128 1) (main_v16 : FVec F S7168x32 .bf16) (main_cst_4 : FVec F S_ .bf16) : IVec S2x128x7168 1 × IVec S2x128 1 × IVec S2x128x18432 1 × IVec S2x128 1 × IVec S7168x32 1 × IVec S32x18432 1 :=
  let main_v17 : FVec F S7168x32 .bf16 := broadcastInDim S7168x32 ![] bcast_S_S7168x32 main_cst_4
  let main_v18 : IVec S7168x32 1 := cmpf .olt main_v16 main_v17
  let main_v19 : FVec F S32x18432 .bf16 := Host.absf main_arg7
  let main_cst_5 : FVec F S_ .bf16 := constant S_ .bf16 0x7F80#16
  let main_v20 : FVec F S32x18432 .bf16 := broadcastInDim S32x18432 ![] bcast_S_S32x18432 main_cst_5
  let main_v21 : IVec S32x18432 1 := cmpf .olt main_v19 main_v20
  (main_v4, main_v7, main_v12, main_v15, main_v18, main_v21)

def fn {F : FTy → Type} [FloatOps F] (main_arg0 : IVec S2x128x7168 8) (main_arg1 : FVec F S2x128 .f32) (main_arg2 : IVec S2x128x18432 8) (main_arg3 : FVec F S2x128 .f32) (main_arg4 : FVec F S7168x18432 .fp8e4m3) (main_arg5 : FVec F S7168 .f32) (main_arg6 : FVec F S7168x32 .bf16) (main_arg7 : FVec F S32x18432 .bf16) : IVec S2x128x7168 1 × IVec S2x128 1 × IVec S2x128x18432 1 × IVec S2x128 1 × IVec S7168x32 1 × IVec S32x18432 1 :=
  let main_v0 : IVec S2x128x7168 32 := (extui 32 · natLt_8_32) main_arg0
  let main_c : IVec S_ 32 := constantI S_ 32 127#32
  let main_v1 : IVec S2x128x7168 32 := broadcastInDim S2x128x7168 ![] bcast_S_S2x128x7168 main_c
  let main_v2 : IVec S2x128x7168 32 := andi main_v0 main_v1
  let main_c_0 : IVec S_ 32 := constantI S_ 32 127#32
  let main_v3 : IVec S2x128x7168 32 := broadcastInDim S2x128x7168 ![] bcast_S_S2x128x7168 main_c_0
  let main_v4 : IVec S2x128x7168 1 := cmpi .ne main_v2 main_v3
  let main_v5 : FVec F S2x128 .f32 := Host.absf main_arg1
  let main_cst : FVec F S_ .f32 := constant S_ .f32 0x7F800000#32
  let main_v6 : FVec F S2x128 .f32 := broadcastInDim S2x128 ![] bcast_S_S2x128 main_cst
  let main_v7 : IVec S2x128 1 := cmpf .olt main_v5 main_v6
  let main_v8 : IVec S2x128x18432 32 := (extui 32 · natLt_8_32) main_arg2
  let main_c_1 : IVec S_ 32 := constantI S_ 32 124#32
  let main_v9 : IVec S2x128x18432 32 := broadcastInDim S2x128x18432 ![] bcast_S_S2x128x18432 main_c_1
  let main_v10 : IVec S2x128x18432 32 := andi main_v8 main_v9
  let main_c_2 : IVec S_ 32 := constantI S_ 32 124#32
  let main_v11 : IVec S2x128x18432 32 := broadcastInDim S2x128x18432 ![] bcast_S_S2x128x18432 main_c_2
  let main_v12 : IVec S2x128x18432 1 := cmpi .ne main_v10 main_v11
  let main_v13 : FVec F S2x128 .f32 := Host.absf main_arg3
  let main_cst_3 : FVec F S_ .f32 := constant S_ .f32 0x7F800000#32
  let main_v14 : FVec F S2x128 .f32 := broadcastInDim S2x128 ![] bcast_S_S2x128 main_cst_3
  let main_v15 : IVec S2x128 1 := cmpf .olt main_v13 main_v14
  let main_v16 : FVec F S7168x32 .bf16 := Host.absf main_arg6
  let main_cst_4 : FVec F S_ .bf16 := constant S_ .bf16 0x7F80#16
  fn_part1 (F := F) main_arg7 main_v4 main_v7 main_v12 main_v15 main_v16 main_cst_4
-- ==== Kernel.lean ====
abbrev S2x128x7168 : Shape := ⟨3, ![2, 128, 7168]⟩
abbrev S2x128 : Shape := ⟨2, ![2, 128]⟩
abbrev S2x128x18432 : Shape := ⟨3, ![2, 128, 18432]⟩
abbrev S7168x18432 : Shape := ⟨2, ![7168, 18432]⟩
abbrev S7168 : Shape := ⟨1, ![7168]⟩
abbrev S7168x32 : Shape := ⟨2, ![7168, 32]⟩
abbrev S32x18432 : Shape := ⟨2, ![32, 18432]⟩
abbrev S32x7168 : Shape := ⟨2, ![32, 7168]⟩
abbrev S256x7168 : Shape := ⟨2, ![256, 7168]⟩
abbrev S256x18432 : Shape := ⟨2, ![256, 18432]⟩
abbrev S1x7168 : Shape := ⟨2, ![1, 7168]⟩
abbrev S256x32 : Shape := ⟨2, ![256, 32]⟩
abbrev S512x18432 : Shape := ⟨2, ![512, 18432]⟩
abbrev S1x512 : Shape := ⟨2, ![1, 512]⟩
abbrev S32x512 : Shape := ⟨2, ![32, 512]⟩
abbrev S256x512 : Shape := ⟨2, ![256, 512]⟩
abbrev S256x96 : Shape := ⟨2, ![256, 96]⟩
abbrev S256x128 : Shape := ⟨2, ![256, 128]⟩
abbrev S1x128 : Shape := ⟨2, ![1, 128]⟩
abbrev S1x256 : Shape := ⟨2, ![1, 256]⟩
abbrev S32x256 : Shape := ⟨2, ![32, 256]⟩
abbrev S128x256 : Shape := ⟨2, ![128, 256]⟩
abbrev S96x256 : Shape := ⟨2, ![96, 256]⟩
abbrev S256x2048 : Shape := ⟨2, ![256, 2048]⟩
abbrev S96x2048 : Shape := ⟨2, ![96, 2048]⟩
abbrev S32x2048 : Shape := ⟨2, ![32, 2048]⟩
abbrev S256x1792 : Shape := ⟨2, ![256, 1792]⟩
abbrev S96x1792 : Shape := ⟨2, ![96, 1792]⟩
abbrev S32x1792 : Shape := ⟨2, ![32, 1792]⟩
abbrev S512x256 : Shape := ⟨2, ![512, 256]⟩
abbrev S96x512 : Shape := ⟨2, ![96, 512]⟩
abbrev S256x1 : Shape := ⟨2, ![256, 1]⟩
abbrev S2x128x32 : Shape := ⟨3, ![2, 128, 32]⟩

abbrev nBuf : Space → Nat
  | .hbm => 23
  | .vmem => 20
  | .smem => 0
  | _ => 0

abbrev bufTy : (tb : Table) → Fin (tcTables nBuf tb) → BufTy
  | .hbm, ⟨0, _⟩ => ⟨S2x128x7168, .i8⟩
  | .hbm, ⟨1, _⟩ => ⟨S2x128, .f32⟩
  | .hbm, ⟨2, _⟩ => ⟨S2x128x18432, .i8⟩
  | .hbm, ⟨3, _⟩ => ⟨S2x128, .f32⟩
  | .hbm, ⟨4, _⟩ => ⟨S7168x18432, .fp8e4m3⟩
  | .hbm, ⟨5, _⟩ => ⟨S7168, .f32⟩
  | .hbm, ⟨6, _⟩ => ⟨S7168x32, .bf16⟩
  | .hbm, ⟨7, _⟩ => ⟨S32x18432, .bf16⟩
  | .hbm, ⟨8, _⟩ => ⟨S2x128x7168, .fp8e4m3⟩
  | .hbm, ⟨9, _⟩ => ⟨S2x128x18432, .fp8e5m2⟩
  | .hbm, ⟨10, _⟩ => ⟨S32x7168, .bf16⟩
  | .hbm, ⟨11, _⟩ => ⟨S256x7168, .fp8e4m3⟩
  | .hbm, ⟨12, _⟩ => ⟨S256x18432, .fp8e5m2⟩
  | .hbm, ⟨13, _⟩ => ⟨S1x7168, .f32⟩
  | .hbm, ⟨14, _⟩ => ⟨S256x7168, .bf16⟩
  | .hbm, ⟨15, _⟩ => ⟨S32x7168, .f32⟩
  | .hbm, ⟨16, _⟩ => ⟨S32x18432, .f32⟩
  | .hbm, ⟨17, _⟩ => ⟨S256x32, .f32⟩
  | .hbm, ⟨18, _⟩ => ⟨S256x32, .f32⟩
  | .hbm, ⟨19, _⟩ => ⟨S2x128x7168, .bf16⟩
  | .hbm, ⟨20, _⟩ => ⟨S7168x32, .f32⟩
  | .hbm, ⟨21, _⟩ => ⟨S2x128x32, .f32⟩
  | .hbm, ⟨22, _⟩ => ⟨S2x128x32, .f32⟩
  | .local _ .vmem, ⟨0, _⟩ => ⟨S256x7168, .fp8e4m3⟩
  | .local _ .vmem, ⟨1, _⟩ => ⟨S2x128, .f32⟩
  | .local _ .vmem, ⟨2, _⟩ => ⟨S256x18432, .fp8e5m2⟩
  | .local _ .vmem, ⟨3, _⟩ => ⟨S2x128, .f32⟩
  | .local _ .vmem, ⟨4, _⟩ => ⟨S512x18432, .fp8e4m3⟩
  | .local _ .vmem, ⟨5, _⟩ => ⟨S512x18432, .fp8e4m3⟩
  | .local _ .vmem, ⟨6, _⟩ => ⟨S1x512, .f32⟩
  | .local _ .vmem, ⟨7, _⟩ => ⟨S1x512, .f32⟩
  | .local _ .vmem, ⟨8, _⟩ => ⟨S32x7168, .bf16⟩
  | .local _ .vmem, ⟨9, _⟩ => ⟨S32x512, .bf16⟩
  | .local _ .vmem, ⟨10, _⟩ => ⟨S32x512, .bf16⟩
  | .local _ .vmem, ⟨11, _⟩ => ⟨S32x18432, .bf16⟩
  | .local _ .vmem, ⟨12, _⟩ => ⟨S256x512, .bf16⟩
  | .local _ .vmem, ⟨13, _⟩ => ⟨S256x512, .bf16⟩
  | .local _ .vmem, ⟨14, _⟩ => ⟨S32x7168, .f32⟩
  | .local _ .vmem, ⟨15, _⟩ => ⟨S32x18432, .f32⟩
  | .local _ .vmem, ⟨16, _⟩ => ⟨S256x32, .f32⟩
  | .local _ .vmem, ⟨17, _⟩ => ⟨S256x32, .f32⟩
  | .local _ .vmem, ⟨18, _⟩ => ⟨S256x96, .bf16⟩
  | .local _ .vmem, ⟨19, _⟩ => ⟨S256x128, .f32⟩
  | _, _ => ⟨S2x128x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x18432 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x18432 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x18432 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x18432 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S2x128x7168 : Shape := ⟨3, ![2, 128, 7168]⟩
abbrev S2x128 : Shape := ⟨2, ![2, 128]⟩
abbrev S2x128x18432 : Shape := ⟨3, ![2, 128, 18432]⟩
abbrev S7168x18432 : Shape := ⟨2, ![7168, 18432]⟩
abbrev S7168 : Shape := ⟨1, ![7168]⟩
abbrev S7168x32 : Shape := ⟨2, ![7168, 32]⟩
abbrev S32x18432 : Shape := ⟨2, ![32, 18432]⟩
abbrev S256x7168 : Shape := ⟨2, ![256, 7168]⟩
abbrev S256x1 : Shape := ⟨2, ![256, 1]⟩
abbrev S256x18432 : Shape := ⟨2, ![256, 18432]⟩
abbrev S1x7168 : Shape := ⟨2, ![1, 7168]⟩
abbrev S256x32 : Shape := ⟨2, ![256, 32]⟩
abbrev S2x128x32 : Shape := ⟨3, ![2, 128, 32]⟩

abbrev nBuf : Space → Nat
  | .hbm => 23
  | .vmem => 13
  | .smem => 0
  | _ => 0

abbrev bufTy : (tb : Table) → Fin (tcTables nBuf tb) → BufTy
  | .hbm, ⟨0, _⟩ => ⟨S2x128x7168, .i8⟩
  | .hbm, ⟨1, _⟩ => ⟨S2x128, .f32⟩
  | .hbm, ⟨2, _⟩ => ⟨S2x128x18432, .i8⟩
  | .hbm, ⟨3, _⟩ => ⟨S2x128, .f32⟩
  | .hbm, ⟨4, _⟩ => ⟨S7168x18432, .fp8e4m3⟩
  | .hbm, ⟨5, _⟩ => ⟨S7168, .f32⟩
  | .hbm, ⟨6, _⟩ => ⟨S7168x32, .bf16⟩
  | .hbm, ⟨7, _⟩ => ⟨S32x18432, .bf16⟩
  | .hbm, ⟨8, _⟩ => ⟨S2x128x7168, .fp8e4m3⟩
  | .hbm, ⟨9, _⟩ => ⟨S2x128x18432, .fp8e5m2⟩
  | .hbm, ⟨10, _⟩ => ⟨S256x7168, .fp8e4m3⟩
  | .hbm, ⟨11, _⟩ => ⟨S256x1, .f32⟩
  | .hbm, ⟨12, _⟩ => ⟨S256x18432, .fp8e5m2⟩
  | .hbm, ⟨13, _⟩ => ⟨S256x1, .f32⟩
  | .hbm, ⟨14, _⟩ => ⟨S1x7168, .f32⟩
  | .hbm, ⟨15, _⟩ => ⟨S256x7168, .bf16⟩
  | .hbm, ⟨16, _⟩ => ⟨S7168x32, .f32⟩
  | .hbm, ⟨17, _⟩ => ⟨S32x18432, .f32⟩
  | .hbm, ⟨18, _⟩ => ⟨S256x32, .f32⟩
  | .hbm, ⟨19, _⟩ => ⟨S256x32, .f32⟩
  | .hbm, ⟨20, _⟩ => ⟨S2x128x7168, .bf16⟩
  | .hbm, ⟨21, _⟩ => ⟨S2x128x32, .f32⟩
  | .hbm, ⟨22, _⟩ => ⟨S2x128x32, .f32⟩
  | .local _ .vmem, ⟨0, _⟩ => ⟨S256x7168, .fp8e4m3⟩
  | .local _ .vmem, ⟨1, _⟩ => ⟨S256x1, .f32⟩
  | .local _ .vmem, ⟨2, _⟩ => ⟨S256x18432, .fp8e5m2⟩
  | .local _ .vmem, ⟨3, _⟩ => ⟨S256x1, .f32⟩
  | .local _ .vmem, ⟨4, _⟩ => ⟨S7168x18432, .fp8e4m3⟩
  | .local _ .vmem, ⟨5, _⟩ => ⟨S1x7168, .f32⟩
  | .local _ .vmem, ⟨6, _⟩ => ⟨S7168x32, .bf16⟩
  | .local _ .vmem, ⟨7, _⟩ => ⟨S32x18432, .bf16⟩
  | .local _ .vmem, ⟨8, _⟩ => ⟨S256x7168, .bf16⟩
  | .local _ .vmem, ⟨9, _⟩ => ⟨S7168x32, .f32⟩
  | .local _ .vmem, ⟨10, _⟩ => ⟨S32x18432, .f32⟩
  | .local _ .vmem, ⟨11, _⟩ => ⟨S256x32, .f32⟩
  | .local _ .vmem, ⟨12, _⟩ => ⟨S256x32, .f32⟩
  | _, _ => ⟨S2x128x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S256x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x18432 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x18432 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x18432 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x7168 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7168x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x18432 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.KPoints.lean ====
/- The points of the kernel's grid: which of the two cases a point is in, which outputs it leaves alone, the memrefs
   the body is called with there. -/
module

public import proofs.«01_k».proof.Proof.Gen.KernelIdeal.Skeleton
public import proofs.«01_k».proof.Proof.Gen.KernelIdeal.Frame
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)
/-! ## Where an output is idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl

/-- Whether output 10's staging buffer holds nothing the body stored since the region's entry or its last write-back:
    so before point 0 and after point 13, and nowhere between. -/
def freshTab0_10 : ℕ → Bool
  | 0 => true
  | n + 1 => (0x2000 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- Point 0 stores into output 10, -/
theorem liveAt0_10_A : ∀ t : Fin cfg0.N, cond0_0 (grid0.coords t) → cfg0.idle 10 (grid0.coords t) = false := by decide +kernel
/-- the other points leave it alone, -/
theorem idleAt0_10_B : ∀ t : Fin cfg0.N, ¬cond0_0 (grid0.coords t) → cfg0.idle 10 (grid0.coords t) = true := by decide +kernel
/-- and find there what point 0 stored. -/
theorem notFresh0_10_B : ∀ t : Fin cfg0.N, ¬cond0_0 (grid0.coords t) → cfg0.fresh 10 t.val = false := by
  intro t; rw [fresh0_10_eq t]; revert t; decide +kernel

/-- Whether output 11's staging buffer holds nothing the body stored since the region's entry or its last write-back:
    so before point 0 and after point 13, and nowhere between. -/
def freshTab0_11 : ℕ → Bool
  | 0 => true
  | n + 1 => (0x2000 : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- Point 0 stores into output 11, -/
theorem liveAt0_11_A : ∀ t : Fin cfg0.N, cond0_0 (grid0.coords t) → cfg0.idle 11 (grid0.coords t) = false := by decide +kernel
/-- the other points leave it alone, -/
theorem idleAt0_11_B : ∀ t : Fin cfg0.N, ¬cond0_0 (grid0.coords t) → cfg0.idle 11 (grid0.coords t) = true := by decide +kernel
/-- and find there what point 0 stored. -/
theorem notFresh0_11_B : ∀ t : Fin cfg0.N, ¬cond0_0 (grid0.coords t) → cfg0.fresh 11 t.val = false := by
  intro t; rw [fresh0_11_eq t]; revert t; decide +kernel

/-- Whether output 12's staging buffer holds nothing the body stored since the region's entry or its last write-back:
    so before point 0 and after point 13, and nowhere between. -/
def freshTab0_12 : ℕ → Bool
  | 0 => true
  | n + 1 => (0x2000 : ℕ).testBit n
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
/-- Point 0 stores into output 12, -/
theorem liveAt0_12_A : ∀ t : Fin cfg0.N, cond0_0 (grid0.coords t) → cfg0.idle 12 (grid0.coords t) = false := by decide +kernel
/-- the other points leave it alone, -/
theorem idleAt0_12_B : ∀ t : Fin cfg0.N, ¬cond0_0 (grid0.coords t) → cfg0.idle 12 (grid0.coords t) = true := by decide +kernel
/-- and find there what point 0 stored. -/
theorem notFresh0_12_B : ∀ t : Fin cfg0.N, ¬cond0_0 (grid0.coords t) → cfg0.fresh 12 t.val = false := by
  intro t; rw [fresh0_12_eq t]; revert t; decide +kernel

/-- Whether output 13's staging buffer holds nothing the body stored since the region's entry or its last write-back:
    so before point 0 and after point 13, and nowhere between. -/
def freshTab0_13 : ℕ → Bool
  | 0 => true
  | n + 1 => (0x2000 : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
/-- Point 0 stores into output 13, -/
theorem liveAt0_13_A : ∀ t : Fin cfg0.N, cond0_0 (grid0.coords t) → cfg0.idle 13 (grid0.coords t) = false := by decide +kernel
/-- the other points leave it alone, -/
theorem idleAt0_13_B : ∀ t : Fin cfg0.N, ¬cond0_0 (grid0.coords t) → cfg0.idle 13 (grid0.coords t) = true := by decide +kernel
/-- and find there what point 0 stored. -/
theorem notFresh0_13_B : ∀ t : Fin cfg0.N, ¬cond0_0 (grid0.coords t) → cfg0.fresh 13 t.val = false := by
  intro t; rw [fresh0_13_eq t]; revert t; decide +kernel

/-! ## The memrefs -/

/-- One staging buffer of output window 9, through which its contents are stated (`View.read_writes_of_cover`: the
    choice does not matter). -/
abbrev VO0_9 : View sig .tc .vmem S256x512 .bf16 := (Memref.whole cc0_stg9_0 : Memref sig .tc .vmem S256x512 .bf16).view
/-- One staging buffer of output window 10, through which its contents are stated (`View.read_writes_of_cover`: the
    choice does not matter). -/
abbrev VO0_10 : View sig .tc .vmem S32x7168 .f32 := (Memref.whole cc0_stg10_0 : Memref sig .tc .vmem S32x7168 .f32).view
/-- One staging buffer of output window 11, through which its contents are stated (`View.read_writes_of_cover`: the
    choice does not matter). -/
abbrev VO0_11 : View sig .tc .vmem S32x18432 .f32 := (Memref.whole cc0_stg11_0 : Memref sig .tc .vmem S32x18432 .f32).view
/-- One staging buffer of output window 12, through which its contents are stated (`View.read_writes_of_cover`: the
    choice does not matter). -/
abbrev VO0_12 : View sig .tc .vmem S256x32 .f32 := (Memref.whole cc0_stg12_0 : Memref sig .tc .vmem S256x32 .f32).view
/-- One staging buffer of output window 13, through which its contents are stated (`View.read_writes_of_cover`: the
    choice does not matter). -/
abbrev VO0_13 : View sig .tc .vmem S256x32 .f32 := (Memref.whole cc0_stg13_0 : Memref sig .tc .vmem S256x32 .f32).view
/-- Each window's current staging memref at point `t`, spelled as the pipeline passes it (`bodyAt0`), and its wholeness. -/
abbrev ms0_0 (t : Fin cfg0.N) : Memref sig .tc .vmem S256x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x18432 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x18432 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x7168 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x18432 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x7168 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x18432 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x32 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x32 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S256x96 .bf16 := Memref.whole cc0_scratch0
abbrev scM0_1 : Memref sig .tc .vmem S256x128 .f32 := Memref.whole cc0_scratch1
/-- The scratch `arg15` the kernel carries between points, as a view: what it holds is stated through it. -/
abbrev VS0_0 : View sig .tc .vmem S256x96 .bf16 := scM0_0.view
/-- The scratch `arg16` the kernel carries between points, as a view: what it holds is stated through it. -/
abbrev VS0_1 : View sig .tc .vmem S256x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KRunA.lean ====
/- The kernel's body at point 0, run. -/
module

public import proofs.«01_k».proof.Proof.KPoints

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body stores at point 0 (`scf.if` taken), buffer by buffer, each a list of pieces with the last store first, WITH the
    proof that on whole memrefs, the inputs at their contents and everything else at anything, the body runs to a state
    with the inputs as they were and the pieces written. The pieces are the witness the run finds. -/
noncomputable def kernelRun0_A (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) :
    Σ' (L9 : List (View.Piece (Elt F) S256x512 .bf16)), Σ' (L10 : List (View.Piece (Elt F) S32x7168 .f32)), Σ' (L11 : List (View.Piece (Elt F) S32x18432 .f32)), Σ' (L12 : List (View.Piece (Elt F) S256x32 .f32)), Σ' (L13 : List (View.Piece (Elt F) S256x32 .f32)), Σ' (LS0 : List (View.Piece (Elt F) S256x96 .bf16)), { LS1 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0_lora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0_lora_bwd_eq_skeleton]; unfold cc0_lora_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexists _; iexact HS0
    iexists _; iexact HS1

end Cert.KernelIdeal.Hand

end
-- ==== Proof.KRunB.lean ====
/- The kernel's body at the points after the first, run. -/
module

public import proofs.«01_k».proof.Proof.KPoints

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores at any other point (`scf.if` not taken): one buffer only, `arg10`'s, WITH the proof that on whole
    memrefs, the inputs at their contents, the two scratch buffers at `xs0` and `xs1`, the body runs to a state with all of
    these as they were and the pieces written. The other outputs' buffers are not touched. -/
noncomputable def kernelRun0_B (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : ¬cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) (xs0 : Vec F S256x96 .bf16) (xs1 : Vec F S256x128 .f32) :
    { L9 : List (View.Piece (Elt F) S256x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg15 fullShare xs0 ∗ owns (c : Thread nD τ) arg16 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg15 fullShare xs0 ∗ owns (c : Thread nD τ) arg16 fullShare xs1) -∗ K ⟨⟩))
          ⊢ wp frame (wpE (defs₀ (F := F)) Variants.none c none) E (cc0_lora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_lora_bwd_eq_skeleton]; unfold cc0_lora_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg15.eq_unread hfs0; obtain rfl := harg16.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HS0]
    · iexists _; isplitr; · ipureintro; exact harg15.read_unread _
      iexact HS0
    iexists _; isplitr; · ipureintro; exact harg16.read_unread _
    iexact HS1

end Cert.KernelIdeal.Hand

end
-- ==== Proof.KBlocks.lean ====
/- What the kernel's body leaves in each buffer, as a function of the blocks it is given. -/
module

public import proofs.«01_k».proof.Proof.KRunA
public import proofs.«01_k».proof.Proof.KRunB
public import Idealize.ShloMosaic.Lib.Pipeline.Value
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes, as functions of the input blocks -/

/-- The row of the 256 scales of `x`. -/
def sxRow (x1 : Vec F S2x128 .f32) : FVec F S1x256 .f32 := k0_pay4 (View.ld x1 (Rect.unit ![0, 0] ![1, 128] inb_S2x128_S1x128_0_0)) (View.ld x1 (Rect.unit ![1, 0] ![1, 128] inb_S2x128_S1x128_1_0))
/-- The row of the 256 scales of `dy`. -/
def sdRow (x3 : Vec F S2x128 .f32) : FVec F S1x256 .f32 := k0_pay5 (View.ld x3 (Rect.unit ![0, 0] ![1, 128] inb_S2x128_S1x128_0_0)) (View.ld x3 (Rect.unit ![1, 0] ![1, 128] inb_S2x128_S1x128_1_0))
/-- `xa`, transposed. -/
def xaRow (x0 : Vec F S256x7168 .fp8e4m3) (x1 : Vec F S2x128 .f32) (x6 : Vec F S32x7168 .bf16) : FVec F S32x256 .f32 := k0_pay6 (View.ld x1 (Rect.unit ![0, 0] ![1, 128] inb_S2x128_S1x128_0_0)) (View.ld x1 (Rect.unit ![1, 0] ![1, 128] inb_S2x128_S1x128_1_0)) x6 x0
/-- `t`, transposed. -/
def tRow (x2 : Vec F S256x18432 .fp8e5m2) (x3 : Vec F S2x128 .f32) (x8 : Vec F S32x18432 .bf16) : FVec F S32x256 .f32 := k0_pay7 (View.ld x3 (Rect.unit ![0, 0] ![1, 128] inb_S2x128_S1x128_0_0)) (View.ld x3 (Rect.unit ![1, 0] ![1, 128] inb_S2x128_S1x128_1_0)) x8 x2
/-- The block of output 13, `xa`. -/
def xaOut (x0 : Vec F S256x7168 .fp8e4m3) (x1 : Vec F S2x128 .f32) (x6 : Vec F S32x7168 .bf16) : FVec F S256x32 .f32 := k0_pay8 (View.ld x1 (Rect.unit ![0, 0] ![1, 128] inb_S2x128_S1x128_0_0)) (View.ld x1 (Rect.unit ![1, 0] ![1, 128] inb_S2x128_S1x128_1_0)) x6 x0
/-- The block of output 12, `t`. -/
def tOut (x2 : Vec F S256x18432 .fp8e5m2) (x3 : Vec F S2x128 .f32) (x8 : Vec F S32x18432 .bf16) : FVec F S256x32 .f32 := k0_pay9 (View.ld x3 (Rect.unit ![0, 0] ![1, 128] inb_S2x128_S1x128_0_0)) (View.ld x3 (Rect.unit ![1, 0] ![1, 128] inb_S2x128_S1x128_1_0)) x8 x2
/-- The first scratch: the three parts of `t`, side by side. -/
def t3Scr (x2 : Vec F S256x18432 .fp8e5m2) (x3 : Vec F S2x128 .f32) (x8 : Vec F S32x18432 .bf16) : FVec F S256x96 .bf16 :=
  k0_pay14 (k0_pay11 (View.ld x3 (Rect.unit ![0, 0] ![1, 128] inb_S2x128_S1x128_0_0)) (View.ld x3 (Rect.unit ![1, 0] ![1, 128] inb_S2x128_S1x128_1_0)) x8 x2) (k0_pay12 (View.ld x3 (Rect.unit ![0, 0] ![1, 128] inb_S2x128_S1x128_0_0)) (View.ld x3 (Rect.unit ![1, 0] ![1, 128] inb_S2x128_S1x128_1_0)) x8 x2) (k0_pay13 (View.ld x3 (Rect.unit ![0, 0] ![1, 128] inb_S2x128_S1x128_0_0)) (View.ld x3 (Rect.unit ![1, 0] ![1, 128] inb_S2x128_S1x128_1_0)) x8 x2)
/-- The second scratch: the scales of `dy` as a column, repeated over the lanes. -/
def dcScr (x3 : Vec F S2x128 .f32) : FVec F S256x128 .f32 := k0_pay10 (View.ld x3 (Rect.unit ![0, 0] ![1, 128] inb_S2x128_S1x128_0_0)) (View.ld x3 (Rect.unit ![1, 0] ![1, 128] inb_S2x128_S1x128_1_0))
/-- The block of output 9, `dx`. -/
def dxBlk (s0 : Vec F S256x96 .bf16) (s1 : Vec F S256x128 .f32) (x2 : Vec F S256x18432 .fp8e5m2) (x4 : Vec F S512x18432 .fp8e4m3) (x5 : Vec F S1x512 .f32) (x7 : Vec F S32x512 .bf16) : FVec F S256x512 .bf16 :=
  k0_pay3 x4 x2 x7 s0 (View.ld s1 (Rect.unit ![0, 0] ![256, 1] inb_S256x128_S256x1_0_0)) x5

/-- The four stores into output 10's block, the last first: 1792 columns each. -/
def daL (x0 : Vec F S256x7168 .fp8e4m3) (x1 : Vec F S2x128 .f32) (x2 : Vec F S256x18432 .fp8e5m2) (x3 : Vec F S2x128 .f32) (x8 : Vec F S32x18432 .bf16) : List (View.Piece (Elt F) S32x7168 .f32) :=
   [⟨Rect.unit ![0, 5376] ![32, 1792] inb_S32x7168_S32x1792_0_5376, k0_pay2 (k0_pay29 (sxRow x1) (tRow x2 x3 x8)) (View.ld x0 (Rect.unit ![0, 5376] ![256, 1792] inb_S256x7168_S256x1792_0_5376))⟩,
    ⟨Rect.unit ![0, 3584] ![32, 1792] inb_S32x7168_S32x1792_0_3584, k0_pay1 (k0_pay32 (sxRow x1) (tRow x2 x3 x8) (View.ld x0 (Rect.unit ![0, 3584] ![256, 1792] inb_S256x7168_S256x1792_0_3584))) (k0_pay33 (sxRow x1) (tRow x2 x3 x8) (View.ld x0 (Rect.unit ![0, 3584] ![256, 1792] inb_S256x7168_S256x1792_0_3584)))⟩,
    ⟨Rect.unit ![0, 1792] ![32, 1792] inb_S32x7168_S32x1792_0_1792, k0_pay31 (sxRow x1) (tRow x2 x3 x8) (View.ld x0 (Rect.unit ![0, 1792] ![256, 1792] inb_S256x7168_S256x1792_0_1792))⟩,
    ⟨Rect.unit ![0, 0] ![32, 1792] inb_S32x7168_S32x1792_0_0, k0_pay30 (sxRow x1) (tRow x2 x3 x8) (View.ld x0 (Rect.unit ![0, 0] ![256, 1792] inb_S256x7168_S256x1792_0_0))⟩]

/-- The nine stores into output 11's block, the last first: 2048 columns each. -/
def dbL (x0 : Vec F S256x7168 .fp8e4m3) (x1 : Vec F S2x128 .f32) (x2 : Vec F S256x18432 .fp8e5m2) (x3 : Vec F S2x128 .f32) (x6 : Vec F S32x7168 .bf16) : List (View.Piece (Elt F) S32x18432 .f32) :=
   [⟨Rect.unit ![0, 16384] ![32, 2048] inb_S32x18432_S32x2048_0_16384, k0_pay28 (k0_pay26 (k0_pay15 (sdRow x3) (xaRow x0 x1 x6)) (View.ld x2 (Rect.unit ![0, 16384] ![256, 2048] inb_S256x18432_S256x2048_0_16384))) k0_pay27⟩,
    ⟨Rect.unit ![0, 14336] ![32, 2048] inb_S32x18432_S32x2048_0_14336, k0_pay25 (k0_pay15 (sdRow x3) (xaRow x0 x1 x6)) (View.ld x2 (Rect.unit ![0, 14336] ![256, 2048] inb_S256x18432_S256x2048_0_14336))⟩,
    ⟨Rect.unit ![0, 12288] ![32, 2048] inb_S32x18432_S32x2048_0_12288, k0_pay24 (k0_pay15 (sdRow x3) (xaRow x0 x1 x6)) (View.ld x2 (Rect.unit ![0, 12288] ![256, 2048] inb_S256x18432_S256x2048_0_12288))⟩,
    ⟨Rect.unit ![0, 10240] ![32, 2048] inb_S32x18432_S32x2048_0_10240, k0_pay23 (k0_pay21 (k0_pay15 (sdRow x3) (xaRow x0 x1 x6)) (View.ld x2 (Rect.unit ![0, 10240] ![256, 2048] inb_S256x18432_S256x2048_0_10240))) (k0_pay22 (k0_pay15 (sdRow x3) (xaRow x0 x1 x6)) (View.ld x2 (Rect.unit ![0, 10240] ![256, 2048] inb_S256x18432_S256x2048_0_10240)))⟩,
    ⟨Rect.unit ![0, 8192] ![32, 2048] inb_S32x18432_S32x2048_0_8192, k0_pay20 (k0_pay15 (sdRow x3) (xaRow x0 x1 x6)) (View.ld x2 (Rect.unit ![0, 8192] ![256, 2048] inb_S256x18432_S256x2048_0_8192))⟩,
    ⟨Rect.unit ![0, 6144] ![32, 2048] inb_S32x18432_S32x2048_0_6144, k0_pay19 (k0_pay15 (sdRow x3) (xaRow x0 x1 x6)) (View.ld x2 (Rect.unit ![0, 6144] ![256, 2048] inb_S256x18432_S256x2048_0_6144))⟩,
    ⟨Rect.unit ![0, 4096] ![32, 2048] inb_S32x18432_S32x2048_0_4096, k0_pay18 (k0_pay15 (sdRow x3) (xaRow x0 x1 x6)) (View.ld x2 (Rect.unit ![0, 4096] ![256, 2048] inb_S256x18432_S256x2048_0_4096))⟩,
    ⟨Rect.unit ![0, 2048] ![32, 2048] inb_S32x18432_S32x2048_0_2048, k0_pay17 (sdRow x3) (xaRow x0 x1 x6) (View.ld x2 (Rect.unit ![0, 2048] ![256, 2048] inb_S256x18432_S256x2048_0_2048))⟩,
    ⟨Rect.unit ![0, 0] ![32, 2048] inb_S32x18432_S32x2048_0_0, k0_pay16 (sdRow x3) (xaRow x0 x1 x6) (View.ld x2 (Rect.unit ![0, 0] ![256, 2048] inb_S256x18432_S256x2048_0_0))⟩]

/-- The block of output 10, `dA` transposed. -/
def daOut (x0 : Vec F S256x7168 .fp8e4m3) (x1 : Vec F S2x128 .f32) (x2 : Vec F S256x18432 .fp8e5m2) (x3 : Vec F S2x128 .f32) (x8 : Vec F S32x18432 .bf16) : Vec F S32x7168 .f32 := View.canon (daL x0 x1 x2 x3 x8)
/-- The block of output 11, `dB`. -/
def dbOut (x0 : Vec F S256x7168 .fp8e4m3) (x1 : Vec F S2x128 .f32) (x2 : Vec F S256x18432 .fp8e5m2) (x3 : Vec F S2x128 .f32) (x6 : Vec F S32x7168 .bf16) : Vec F S32x18432 .f32 := View.canon (dbL x0 x1 x2 x3 x6)

theorem off_zero : ∀ a : Fin 2, (![0, 0] : Fin 2 → ℕ) a = 0 := by decide
theorem off_eq_zero : (![0, 0] : Fin 2 → ℕ) = fun _ => 0 := funext off_zero

/-- The stores at point 0 into output 9 cover it. -/
theorem coverA_9 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1 S256x512.size (by sl_kernel_rfl) y

/-- What the stores at point 0 leave in output 9, as a function of the input blocks. -/
theorem canonA_9 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1 = dxBlk (t3Scr x2 x3 x8) (dcScr x3) x2 x4 x5 x7 := by
  unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread]
  rw [View.canon_cons_unit_zero (S := S256x512) off_eq_zero, View.readCov_unit_zero (S := S256x96) _ off_eq_zero, View.readCov_eq_canon_ld _ _ _ (View.cover_of_tiledL _ S256x128.size (by sl_kernel_rfl)), View.canon_cons_unit_zero (S := S256x128) off_eq_zero]
  simp only [View.ld_unit_zero (S := S256x7168) off_eq_zero, View.ld_unit_zero (S := S256x18432) off_eq_zero, View.ld_unit_zero (S := S512x18432) off_eq_zero, View.ld_unit_zero (S := S1x512) off_eq_zero, View.ld_unit_zero (S := S32x7168) off_eq_zero, View.ld_unit_zero (S := S32x512) off_eq_zero, View.ld_unit_zero (S := S32x18432) off_eq_zero]
  rfl

/-- The stores at point 0 into output 10 cover it. -/
theorem coverA_10 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) (y : S32x7168.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.1 S32x1792.size (by sl_kernel_rfl) y

/-- What the stores at point 0 leave in output 10, as a function of the input blocks. -/
theorem canonA_10 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.1 = daOut x0 x1 x2 x3 x8 := by
  unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread]
  simp only [View.ld_unit_zero (S := S256x7168) off_eq_zero, View.ld_unit_zero (S := S256x18432) off_eq_zero, View.ld_unit_zero (S := S512x18432) off_eq_zero, View.ld_unit_zero (S := S1x512) off_eq_zero, View.ld_unit_zero (S := S32x7168) off_eq_zero, View.ld_unit_zero (S := S32x512) off_eq_zero, View.ld_unit_zero (S := S32x18432) off_eq_zero]
  rfl

/-- The stores at point 0 into output 11 cover it. -/
theorem coverA_11 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) (y : S32x18432.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.1 S32x2048.size (by sl_kernel_rfl) y

/-- What the stores at point 0 leave in output 11, as a function of the input blocks. -/
theorem canonA_11 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.1 = dbOut x0 x1 x2 x3 x6 := by
  unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread]
  simp only [View.ld_unit_zero (S := S256x7168) off_eq_zero, View.ld_unit_zero (S := S256x18432) off_eq_zero, View.ld_unit_zero (S := S512x18432) off_eq_zero, View.ld_unit_zero (S := S1x512) off_eq_zero, View.ld_unit_zero (S := S32x7168) off_eq_zero, View.ld_unit_zero (S := S32x512) off_eq_zero, View.ld_unit_zero (S := S32x18432) off_eq_zero]
  rfl

/-- The stores at point 0 into output 12 cover it. -/
theorem coverA_12 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) (y : S256x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.1 S256x32.size (by sl_kernel_rfl) y

/-- What the stores at point 0 leave in output 12, as a function of the input blocks. -/
theorem canonA_12 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.1 = tOut x2 x3 x8 := by
  unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread]
  rw [View.canon_cons_unit_zero (S := S256x32) off_eq_zero]
  simp only [View.ld_unit_zero (S := S256x7168) off_eq_zero, View.ld_unit_zero (S := S256x18432) off_eq_zero, View.ld_unit_zero (S := S512x18432) off_eq_zero, View.ld_unit_zero (S := S1x512) off_eq_zero, View.ld_unit_zero (S := S32x7168) off_eq_zero, View.ld_unit_zero (S := S32x512) off_eq_zero, View.ld_unit_zero (S := S32x18432) off_eq_zero]
  rfl

/-- The stores at point 0 into output 13 cover it. -/
theorem coverA_13 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) (y : S256x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.1 S256x32.size (by sl_kernel_rfl) y

/-- What the stores at point 0 leave in output 13, as a function of the input blocks. -/
theorem canonA_13 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.1 = xaOut x0 x1 x6 := by
  unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread]
  rw [View.canon_cons_unit_zero (S := S256x32) off_eq_zero]
  simp only [View.ld_unit_zero (S := S256x7168) off_eq_zero, View.ld_unit_zero (S := S256x18432) off_eq_zero, View.ld_unit_zero (S := S512x18432) off_eq_zero, View.ld_unit_zero (S := S1x512) off_eq_zero, View.ld_unit_zero (S := S32x7168) off_eq_zero, View.ld_unit_zero (S := S32x512) off_eq_zero, View.ld_unit_zero (S := S32x18432) off_eq_zero]
  rfl

/-- The stores at point 0 into the first scratch cover it. -/
theorem coverA_s0 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) (y : S256x96.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.1 S256x96.size (by sl_kernel_rfl) y

/-- What the stores at point 0 leave in the first scratch, as a function of the input blocks. -/
theorem canonA_s0 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.1 = t3Scr x2 x3 x8 := by
  unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread]
  rw [View.canon_cons_unit_zero (S := S256x96) off_eq_zero]
  simp only [View.ld_unit_zero (S := S256x7168) off_eq_zero, View.ld_unit_zero (S := S256x18432) off_eq_zero, View.ld_unit_zero (S := S512x18432) off_eq_zero, View.ld_unit_zero (S := S1x512) off_eq_zero, View.ld_unit_zero (S := S32x7168) off_eq_zero, View.ld_unit_zero (S := S32x512) off_eq_zero, View.ld_unit_zero (S := S32x18432) off_eq_zero]
  rfl

/-- The stores at point 0 into the second scratch cover it. -/
theorem coverA_s1 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.2.1 S256x128.size (by sl_kernel_rfl) y

/-- What the stores at point 0 leave in the second scratch, as a function of the input blocks. -/
theorem canonA_s1 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.2.1 = dcScr x3 := by
  unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread]
  rw [View.canon_cons_unit_zero (S := S256x128) off_eq_zero]
  rfl

/-- The store at a later point into output 9 covers it. -/
theorem coverB_9 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : ¬cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) (xs0 : Vec F S256x96 .bf16) (xs1 : Vec F S256x128 .f32) (y : S256x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1).1 S256x512.size (by sl_kernel_rfl) y

/-- What the store at a later point leaves in output 9, as a function of the input blocks and of the two scratch buffers. -/
theorem canonB_9 (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x512 .f32) (harg6 : arg6.IsWhole) (arg7 : Memref sig .tc .vmem S32x7168 .bf16) (harg7 : arg7.IsWhole) (arg8 : Memref sig .tc .vmem S32x512 .bf16) (harg8 : arg8.IsWhole) (arg9 : Memref sig .tc .vmem S32x18432 .bf16) (harg9 : arg9.IsWhole) (arg10 : Memref sig .tc .vmem S256x512 .bf16) (harg10 : arg10.IsWhole) (arg11 : Memref sig .tc .vmem S32x7168 .f32) (harg11 : arg11.IsWhole) (arg12 : Memref sig .tc .vmem S32x18432 .f32) (harg12 : arg12.IsWhole) (arg13 : Memref sig .tc .vmem S256x32 .f32) (harg13 : arg13.IsWhole) (arg14 : Memref sig .tc .vmem S256x32 .f32) (harg14 : arg14.IsWhole) (arg15 : Memref sig .tc .vmem S256x96 .bf16) (harg15 : arg15.IsWhole) (arg16 : Memref sig .tc .vmem S256x128 .f32) (harg16 : arg16.IsWhole) (hc0 : ¬cond0_0 i)
    (x0 : Vec F S256x7168 .fp8e4m3) (x1 : Vec F S2x128 .f32) (x2 : Vec F S256x18432 .fp8e5m2) (x3 : Vec F S2x128 .f32) (x4 : Vec F S512x18432 .fp8e4m3) (x5 : Vec F S1x512 .f32) (x6 : Vec F S32x7168 .bf16) (x7 : Vec F S32x512 .bf16) (x8 : Vec F S32x18432 .bf16) (xs0 : Vec F S256x96 .bf16) (xs1 : Vec F S256x128 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1).1 = dxBlk xs0 xs1 x2 x4 x5 x7 := by
  unfold kernelRun0_B; dsimp only
  sl_unfold_words
  simp only [View.readAt_eq_ld, harg1.read_unread, harg2.read_unread, harg3.read_unread, harg4.read_unread, harg5.read_unread, harg6.read_unread, harg7.read_unread, harg8.read_unread, harg9.read_unread, harg15.read_unread, harg16.read_unread]
  rw [View.canon_cons_unit_zero (S := S256x512) off_eq_zero]
  simp only [View.ld_unit_zero (S := S256x7168) off_eq_zero, View.ld_unit_zero (S := S256x18432) off_eq_zero, View.ld_unit_zero (S := S512x18432) off_eq_zero, View.ld_unit_zero (S := S1x512) off_eq_zero, View.ld_unit_zero (S := S32x7168) off_eq_zero, View.ld_unit_zero (S := S32x512) off_eq_zero, View.ld_unit_zero (S := S32x18432) off_eq_zero, View.ld_unit_zero (S := S256x96) off_eq_zero]
  rfl

end Cert.KernelIdeal.Hand

end
-- ==== Proof.KFrame.lean ====
/- The kernel runs: what its buffers hold at every point, and the frame. -/
module

public import proofs.«01_k».proof.Proof.KBlocks
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents, from the arrays the region finds -/

/-- The first scratch after point 0, -/
def S0 (c : Dev nD) : Vec F S256x96 .bf16 := t3Scr (iblk m c 2 t0_0) (iblk m c 3 t0_0) (iblk m c 8 t0_0)
/-- the second, -/
def S1 (c : Dev nD) : Vec F S256x128 .f32 := dcScr (iblk m c 3 t0_0)
/-- output 9's block after point `t`, -/
def O9 (c : Dev nD) (t : Fin cfg0.N) : Vec F S256x512 .bf16 := dxBlk (S0 m c) (S1 m c) (iblk m c 2 t) (iblk m c 4 t) (iblk m c 5 t) (iblk m c 7 t)
/-- and the blocks of the four outputs that point 0 stores and every later point leaves as they are. -/
def O10 (c : Dev nD) : Vec F S32x7168 .f32 := daOut (iblk m c 0 t0_0) (iblk m c 1 t0_0) (iblk m c 2 t0_0) (iblk m c 3 t0_0) (iblk m c 8 t0_0)
def O11 (c : Dev nD) : Vec F S32x18432 .f32 := dbOut (iblk m c 0 t0_0) (iblk m c 1 t0_0) (iblk m c 2 t0_0) (iblk m c 3 t0_0) (iblk m c 6 t0_0)
def O12 (c : Dev nD) : Vec F S256x32 .f32 := tOut (iblk m c 2 t0_0) (iblk m c 3 t0_0) (iblk m c 8 t0_0)
def O13 (c : Dev nD) : Vec F S256x32 .f32 := xaOut (iblk m c 0 t0_0) (iblk m c 1 t0_0) (iblk m c 6 t0_0)

/-- The invariant between the points: before the first one the two scratch buffers hold anything, afterwards `S0` and `S1`. -/
def PhiS (c : Dev nD) : (n : ℕ) → sProp 𝕄
  | 0 => Pipeline.ΦA spec0 c
  | _ + 1 => iprop(iprop(owns (c : Thread nD τ) scM0_0 fullShare (S0 m c) ∗ owns (c : Thread nD τ) scM0_1 fullShare (S1 m c)) ∗ (∃ r, prngReg c r))

theorem PhiS_zero (c : Dev nD) (n : ℕ) (hz : n = 0) : PhiS m c n = Pipeline.ΦA spec0 c := by
  subst hz; rfl
theorem PhiS_succ (c : Dev nD) (n : ℕ) :
    PhiS m c (n + 1) = iprop(iprop(owns (c : Thread nD τ) scM0_0 fullShare (S0 m c) ∗ owns (c : Thread nD τ) scM0_1 fullShare (S1 m c)) ∗ (∃ r, prngReg c r)) := rfl
theorem PhiS_pos (c : Dev nD) (n : ℕ) (hz : n ≠ 0) :
    PhiS m c n = iprop(iprop(owns (c : Thread nD τ) scM0_0 fullShare (S0 m c) ∗ owns (c : Thread nD τ) scM0_1 fullShare (S1 m c)) ∗ (∃ r, prngReg c r)) := by
  cases n with
  | zero => exact absurd rfl hz
  | succ n => rfl

/-! ## The pipeline's proof data -/

/-- The proof data on core `c`: the arrays as the region finds them; after the body at point `t` each input's buffer at its
    block, the outputs' at the contents above; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => O9 m c t
    | ⟨10, _⟩ => O10 m c
    | ⟨11, _⟩ => O11 m c
    | ⟨12, _⟩ => O12 m c
    | ⟨13, _⟩ => O13 m c
  Φ t := PhiS m c t.val
  q w := Pipeline.shareOf spec0 w
  owed _ := 0

/-- The proof data's arrays are what the region finds. -/
theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = O9 m c t := by dsimp only [dats]
theorem after0_10 (c : Dev nD) (t : Fin cfg0.N) : (dats m 0 c).after 10 t = O10 m c := by dsimp only [dats]
theorem after0_11 (c : Dev nD) (t : Fin cfg0.N) : (dats m 0 c).after 11 t = O11 m c := by dsimp only [dats]
theorem after0_12 (c : Dev nD) (t : Fin cfg0.N) : (dats m 0 c).after 12 t = O12 m c := by dsimp only [dats]
theorem after0_13 (c : Dev nD) (t : Fin cfg0.N) : (dats m 0 c).after 13 t = O13 m c := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- After the first point output 10's staging buffer holds what the first point stored. -/
theorem before0_10_B (c : Dev nD) (t : Fin cfg0.N) (h0 : ¬cond0_0 (grid0.coords t)) (d) : (dats m 0 c).before 10 t d = O10 m c := by
  rw [Dat.before_out_traj _ 10 rfl (fun _ _ => rfl) (fun t _ _ _ => by rw [after0_10, after0_10]) t.val t rfl d,
    if_neg (by rw [notFresh0_10_B t h0]; exact Bool.false_ne_true)]
  dsimp only [dats]
/-- A point that leaves output 10 alone hands its buffer back as it found it, written back or not. -/
theorem leaves0_10_B (c : Dev nD) (t : Fin cfg0.N) (h0 : ¬cond0_0 (grid0.coords t)) :
    (∃ d, owns (c : Thread nD τ) (ms0_10 t) fullShare ((dats m 0 c).before 10 t d)) ⊢ (dats m 0 c).leavesExact 10 t := by
  by_cases hf : (cfg0.win 10).flush t = true
  · rw [show (dats m 0 c).leavesExact 10 t = owns (c : Thread nD τ) (ms0_10 t) fullShare ((dats m 0 c).after 10 t) from by
      unfold Dat.leavesExact; rw [idleAt0_10_B t h0, hf], after0_10]
    simp only [before0_10_B m c t h0]
    iintro ⟨%d, H⟩
    iexact H
  · rw [Dat.leavesExact_idle _ 10 t (idleAt0_10_B t h0) (by simpa using hf)]

/-- After the first point output 11's staging buffer holds what the first point stored. -/
theorem before0_11_B (c : Dev nD) (t : Fin cfg0.N) (h0 : ¬cond0_0 (grid0.coords t)) (d) : (dats m 0 c).before 11 t d = O11 m c := by
  rw [Dat.before_out_traj _ 11 rfl (fun _ _ => rfl) (fun t _ _ _ => by rw [after0_11, after0_11]) t.val t rfl d,
    if_neg (by rw [notFresh0_11_B t h0]; exact Bool.false_ne_true)]
  dsimp only [dats]
/-- A point that leaves output 11 alone hands its buffer back as it found it, written back or not. -/
theorem leaves0_11_B (c : Dev nD) (t : Fin cfg0.N) (h0 : ¬cond0_0 (grid0.coords t)) :
    (∃ d, owns (c : Thread nD τ) (ms0_11 t) fullShare ((dats m 0 c).before 11 t d)) ⊢ (dats m 0 c).leavesExact 11 t := by
  by_cases hf : (cfg0.win 11).flush t = true
  · rw [show (dats m 0 c).leavesExact 11 t = owns (c : Thread nD τ) (ms0_11 t) fullShare ((dats m 0 c).after 11 t) from by
      unfold Dat.leavesExact; rw [idleAt0_11_B t h0, hf], after0_11]
    simp only [before0_11_B m c t h0]
    iintro ⟨%d, H⟩
    iexact H
  · rw [Dat.leavesExact_idle _ 11 t (idleAt0_11_B t h0) (by simpa using hf)]

/-- After the first point output 12's staging buffer holds what the first point stored. -/
theorem before0_12_B (c : Dev nD) (t : Fin cfg0.N) (h0 : ¬cond0_0 (grid0.coords t)) (d) : (dats m 0 c).before 12 t d = O12 m c := by
  rw [Dat.before_out_traj _ 12 rfl (fun _ _ => rfl) (fun t _ _ _ => by rw [after0_12, after0_12]) t.val t rfl d,
    if_neg (by rw [notFresh0_12_B t h0]; exact Bool.false_ne_true)]
  dsimp only [dats]
/-- A point that leaves output 12 alone hands its buffer back as it found it, written back or not. -/
theorem leaves0_12_B (c : Dev nD) (t : Fin cfg0.N) (h0 : ¬cond0_0 (grid0.coords t)) :
    (∃ d, owns (c : Thread nD τ) (ms0_12 t) fullShare ((dats m 0 c).before 12 t d)) ⊢ (dats m 0 c).leavesExact 12 t := by
  by_cases hf : (cfg0.win 12).flush t = true
  · rw [show (dats m 0 c).leavesExact 12 t = owns (c : Thread nD τ) (ms0_12 t) fullShare ((dats m 0 c).after 12 t) from by
      unfold Dat.leavesExact; rw [idleAt0_12_B t h0, hf], after0_12]
    simp only [before0_12_B m c t h0]
    iintro ⟨%d, H⟩
    iexact H
  · rw [Dat.leavesExact_idle _ 12 t (idleAt0_12_B t h0) (by simpa using hf)]

/-- After the first point output 13's staging buffer holds what the first point stored. -/
theorem before0_13_B (c : Dev nD) (t : Fin cfg0.N) (h0 : ¬cond0_0 (grid0.coords t)) (d) : (dats m 0 c).before 13 t d = O13 m c := by
  rw [Dat.before_out_traj _ 13 rfl (fun _ _ => rfl) (fun t _ _ _ => by rw [after0_13, after0_13]) t.val t rfl d,
    if_neg (by rw [notFresh0_13_B t h0]; exact Bool.false_ne_true)]
  dsimp only [dats]
/-- A point that leaves output 13 alone hands its buffer back as it found it, written back or not. -/
theorem leaves0_13_B (c : Dev nD) (t : Fin cfg0.N) (h0 : ¬cond0_0 (grid0.coords t)) :
    (∃ d, owns (c : Thread nD τ) (ms0_13 t) fullShare ((dats m 0 c).before 13 t d)) ⊢ (dats m 0 c).leavesExact 13 t := by
  by_cases hf : (cfg0.win 13).flush t = true
  · rw [show (dats m 0 c).leavesExact 13 t = owns (c : Thread nD τ) (ms0_13 t) fullShare ((dats m 0 c).after 13 t) from by
      unfold Dat.leavesExact; rw [idleAt0_13_B t h0, hf], after0_13]
    simp only [before0_13_B m c t h0]
    iintro ⟨%d, H⟩
    iexact H
  · rw [Dat.leavesExact_idle _ 13 t (idleAt0_13_B t h0) (by simpa using hf)]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 12800000 in
/-- The body at any point: the inputs' memrefs hold their blocks, the two scratch buffers hold anything at the first point and
    `S0` and `S1` afterwards; the run of the point's case applies, and what its stores leave is what the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from Phi_eq m c _, PhiS_succ]
  rw [show (dats m 0 c).Φ t.castSucc = PhiS m c t.val from Phi_eq m c _]
  have hN : t.val < 14 := lt_of_lt_of_eq t.isLt (show cfg0.N = 14 from N_0)
  by_cases h0 : cond0_0 (grid0.coords t)
  · have hz : t.val = 0 := by have := (hcond0_0 t).mp h0; omega
    obtain rfl : t = t0_0 := Fin.ext hz
    rw [show (dats m 0 c).leavesExact 0 t0_0 = owns (c : Thread nD τ) (ms0_0 t0_0) fullShare ((dats m 0 c).after 0 t0_0) from by
      unfold Dat.leavesExact; rw [liveAt0_0 t0_0], after0_0]
    rw [show (dats m 0 c).leavesExact 1 t0_0 = owns (c : Thread nD τ) (ms0_1 t0_0) fullShare ((dats m 0 c).after 1 t0_0) from by
      unfold Dat.leavesExact; rw [liveAt0_1 t0_0], after0_1]
    rw [show (dats m 0 c).leavesExact 2 t0_0 = owns (c : Thread nD τ) (ms0_2 t0_0) fullShare ((dats m 0 c).after 2 t0_0) from by
      unfold Dat.leavesExact; rw [liveAt0_2 t0_0], after0_2]
    rw [show (dats m 0 c).leavesExact 3 t0_0 = owns (c : Thread nD τ) (ms0_3 t0_0) fullShare ((dats m 0 c).after 3 t0_0) from by
      unfold Dat.leavesExact; rw [liveAt0_3 t0_0], after0_3]
    rw [show (dats m 0 c).leavesExact 4 t0_0 = owns (c : Thread nD τ) (ms0_4 t0_0) fullShare ((dats m 0 c).after 4 t0_0) from by
      unfold Dat.leavesExact; rw [liveAt0_4 t0_0], after0_4]
    rw [show (dats m 0 c).leavesExact 5 t0_0 = owns (c : Thread nD τ) (ms0_5 t0_0) fullShare ((dats m 0 c).after 5 t0_0) from by
      unfold Dat.leavesExact; rw [liveAt0_5 t0_0], after0_5]
    rw [show (dats m 0 c).leavesExact 6 t0_0 = owns (c : Thread nD τ) (ms0_6 t0_0) fullShare ((dats m 0 c).after 6 t0_0) from by
      unfold Dat.leavesExact; rw [liveAt0_6 t0_0], after0_6]
    rw [show (dats m 0 c).leavesExact 7 t0_0 = owns (c : Thread nD τ) (ms0_7 t0_0) fullShare ((dats m 0 c).after 7 t0_0) from by
      unfold Dat.leavesExact; rw [liveAt0_7 t0_0], after0_7]
    rw [show (dats m 0 c).leavesExact 8 t0_0 = owns (c : Thread nD τ) (ms0_8 t0_0) fullShare ((dats m 0 c).after 8 t0_0) from by
      unfold Dat.leavesExact; rw [liveAt0_8 t0_0], after0_8]
    rw [show (dats m 0 c).leavesExact 9 t0_0 = owns (c : Thread nD τ) (ms0_9 t0_0) fullShare ((dats m 0 c).after 9 t0_0) from by
      unfold Dat.leavesExact; rw [liveAt0_9 t0_0], after0_9]
    rw [show (dats m 0 c).leavesExact 10 t0_0 = owns (c : Thread nD τ) (ms0_10 t0_0) fullShare ((dats m 0 c).after 10 t0_0) from by
      unfold Dat.leavesExact; rw [liveAt0_10_A t0_0 h0], after0_10]
    rw [show (dats m 0 c).leavesExact 11 t0_0 = owns (c : Thread nD τ) (ms0_11 t0_0) fullShare ((dats m 0 c).after 11 t0_0) from by
      unfold Dat.leavesExact; rw [liveAt0_11_A t0_0 h0], after0_11]
    rw [show (dats m 0 c).leavesExact 12 t0_0 = owns (c : Thread nD τ) (ms0_12 t0_0) fullShare ((dats m 0 c).after 12 t0_0) from by
      unfold Dat.leavesExact; rw [liveAt0_12_A t0_0 h0], after0_12]
    rw [show (dats m 0 c).leavesExact 13 t0_0 = owns (c : Thread nD τ) (ms0_13 t0_0) fullShare ((dats m 0 c).after 13 t0_0) from by
      unfold Dat.leavesExact; rw [liveAt0_13_A t0_0 h0], after0_13]
    rw [PhiS_zero m c _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_A c (grid0.coords t0_0) _ _ _ _ _ _ _ _ _ _ _ _ _ _ _ _ _ _ _ _ _ _ _ _ _ _ _ _ _ _ _ _ h0 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    iintro ⟨H0, H1, H2, H3, H4, H5, H6, H7, H8, ⟨%e9, H9⟩, ⟨%e10, H10⟩, ⟨%e11, H11⟩, ⟨%e12, H12⟩, ⟨%e13, H13⟩, ⟨%es0, HS0⟩, ⟨%es1, HS1⟩⟩
    isplitl [HS0 HS1 Hg]
    · isplitl [HS0 HS1]
      · isplitl [HS0]
        · unfold owns; iexists _; isplitr
          swap; · iexact HS0
          ipureintro; exact (View.read_writes_eq_canon _ _ _ (coverA_s0 c _ _ _ _ _ _ _ _ _ _ _ _ _ _ _ _ _ _ _ _ _ _ _ _ _ _ _ _ _ _ _ _ _ h0 _ _ _ _ _ _ _ _ _)).trans (canonA_s0 c _ _ _ _ _ _ _ _ _ _ _ _ _ _ _ _ _ _ _ _ _ _ _ _ _ _ _ _ _ _ _ _ _ h0 _ _ _ _ _ _ _ _ _)
        unfold owns; iexists _; isplitr
        swap; · iexact HS1
        ipureintro; exact (View.read_writes_eq_canon _ _ _ (coverA_s1 c _ _ _ _ _ _ _ _ _ _ _ _ _ _ _ _ _ _ _ _ _ _ _ _ _ _ _ _ _ _ _ _ _ h0 _ _ _ _ _ _ _ _ _)).trans (canonA_s1 c _ _ _ _ _ _ _ _ _ _ _ _ _ _ _ _ _ _ _ _ _ _ _ _ _ _ _ _ _ _ _ _ _ h0 _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact (View.read_writes_eq_canon _ _ _ (coverA_9 c _ _ _ _ _ _ _ _ _ _ _ _ _ _ _ _ _ _ _ _ _ _ _ _ _ _ _ _ _ _ _ _ _ h0 _ _ _ _ _ _ _ _ _)).trans (canonA_9 c _ _ _ _ _ _ _ _ _ _ _ _ _ _ _ _ _ _ _ _ _ _ _ _ _ _ _ _ _ _ _ _ _ h0 _ _ _ _ _ _ _ _ _)
    isplitl [H10]
    · unfold owns; iexists _; isplitr
      swap; · iexact H10
      ipureintro; exact (View.read_writes_eq_canon _ _ _ (coverA_10 c _ _ _ _ _ _ _ _ _ _ _ _ _ _ _ _ _ _ _ _ _ _ _ _ _ _ _ _ _ _ _ _ _ h0 _ _ _ _ _ _ _ _ _)).trans (canonA_10 c _ _ _ _ _ _ _ _ _ _ _ _ _ _ _ _ _ _ _ _ _ _ _ _ _ _ _ _ _ _ _ _ _ h0 _ _ _ _ _ _ _ _ _)
    isplitl [H11]
    · unfold owns; iexists _; isplitr
      swap; · iexact H11
      ipureintro; exact (View.read_writes_eq_canon _ _ _ (coverA_11 c _ _ _ _ _ _ _ _ _ _ _ _ _ _ _ _ _ _ _ _ _ _ _ _ _ _ _ _ _ _ _ _ _ h0 _ _ _ _ _ _ _ _ _)).trans (canonA_11 c _ _ _ _ _ _ _ _ _ _ _ _ _ _ _ _ _ _ _ _ _ _ _ _ _ _ _ _ _ _ _ _ _ h0 _ _ _ _ _ _ _ _ _)
    isplitl [H12]
    · unfold owns; iexists _; isplitr
      swap; · iexact H12
      ipureintro; exact (View.read_writes_eq_canon _ _ _ (coverA_12 c _ _ _ _ _ _ _ _ _ _ _ _ _ _ _ _ _ _ _ _ _ _ _ _ _ _ _ _ _ _ _ _ _ h0 _ _ _ _ _ _ _ _ _)).trans (canonA_12 c _ _ _ _ _ _ _ _ _ _ _ _ _ _ _ _ _ _ _ _ _ _ _ _ _ _ _ _ _ _ _ _ _ h0 _ _ _ _ _ _ _ _ _)
    unfold owns; iexists _; isplitr
    swap; · iexact H13
    ipureintro; exact (View.read_writes_eq_canon _ _ _ (coverA_13 c _ _ _ _ _ _ _ _ _ _ _ _ _ _ _ _ _ _ _ _ _ _ _ _ _ _ _ _ _ _ _ _ _ h0 _ _ _ _ _ _ _ _ _)).trans (canonA_13 c _ _ _ _ _ _ _ _ _ _ _ _ _ _ _ _ _ _ _ _ _ _ _ _ _ _ _ _ _ _ _ _ _ h0 _ _ _ _ _ _ _ _ _)
  · have hz : t.val ≠ 0 := fun h => h0 ((hcond0_0 t).mpr (by omega))
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [PhiS_pos m c _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12, H13⟩
    iapply ((kernelRun0_B c (grid0.coords t) _ _ _ _ _ _ _ _ _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) (iblk m c 7 t) (iblk m c 8 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    iintro ⟨H0, H1, H2, H3, H4, H5, H6, H7, H8, ⟨%e9, H9⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact (View.read_writes_eq_canon _ _ _ (coverB_9 c _ _ _ _ _ _ _ _ _ _ _ _ _ _ _ _ _ _ _ _ _ _ _ _ _ _ _ _ _ _ _ _ _ h0 _ _ _ _ _ _ _ _ _ _ _)).trans (canonB_9 c _ _ _ _ _ _ _ _ _ _ _ _ _ _ _ _ _ _ _ _ _ _ _ _ _ _ _ _ _ _ _ _ _ h0 _ _ _ _ _ _ _ _ _ _ _)
    isplitl [H10]
    · iapply (leaves0_10_B m c t h0); iexact H10
    isplitl [H11]
    · iapply (leaves0_11_B m c t h0); iexact H11
    isplitl [H12]
    · iapply (leaves0_12_B m c t h0); iexact H12
    iapply (leaves0_13_B m c t h0); iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [Phi_eq, PhiS_zero m c _ (show (0 : Fin (cfg0.N + 1)).val = 0 from rfl)]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [Phi_eq, PhiS_pos m c _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 14 := N_0; omega)

/-! ## The run and the frame -/

-- `θ_run_frame_around_track_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Hand

end
-- ==== Proof.KWords.lean ====
/- The kernel over the machine's words: its frame. It is printed from the same operations as the program over the
   reals, whose frame is proved at every instance of the floats, so the two body tables are one. -/
module

public import proofs.«01_k».proof.Defs
public import proofs.«01_k».proof.Proof.Gen.Kernel.Launch
public import proofs.«01_k».proof.Proof.KFrame

@[expose] public section

set_option maxRecDepth 16384

noncomputable section

namespace Cert.Kernel.Hand

open Idealize.ShloMosaic Idealize.ShloMosaic.TcCoe Idealize.SL.Sem

attribute [local instance] Cert.Kernel.Gen.facts Cert.KernelIdeal.Gen.facts

variable {F : FTy → Type} [FloatOps F]

/-- The two printings of the kernel's function are the same program, -/
theorem body_eq : @Cert.Kernel.cc0_lora_bwd F _ _ = @Cert.KernelIdeal.cc0_lora_bwd F _ _ := rfl

/-- so are the tables that run it, -/
theorem defs₀_eq : @Cert.Kernel.defs₀ F _ _ = @Cert.KernelIdeal.defs₀ F _ _ := by
  funext pr
  cases pr with
  | tc =>
    funext ℓ a
    match ℓ, a with
    | 0, (t, s) => rfl
  | scScalar _ => rfl
  | scVector _ _ => rfl

/-- so are the whole body tables, -/
theorem defs_eq : @Cert.Kernel.defs F _ _ = @Cert.KernelIdeal.defs F _ _ :=
  congrArg (Pipeline.defs Cert.KernelIdeal.pcfgs) defs₀_eq

/-- and the programs that call them. -/
theorem main_eq : @Cert.Kernel.main F _ _ = @Cert.KernelIdeal.main F _ _ := rfl

/-- The kernel terminates, leaves its arguments as they were and its semaphores at zero. -/
theorem frame : Cert.quiescent_Kernel (hKernel := Cert.Kernel.Gen.facts) := by
  intro m g _
  have h := Cert.KernelIdeal.Hand.frame (F := Bits) m g
  rw [← defs_eq] at h
  exact h

end Cert.Kernel.Hand

end
-- ==== Proof.Math.lean ====
/- The mathematics both programs compute, as functions of plain indices over the extended reals. -/
module

public import Idealize.ShloMosaic.Lib.Pointwise

@[expose] public section

set_option maxRecDepth 16384

noncomputable section

namespace Cert.Lora

open Idealize.ShloMosaic

/-- An extended real that is a real number. -/
def IsReal (x : EReal) : Prop := ∃ r : ℝ, x = (r : EReal)

/-- A product of real numbers is one. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of two real numbers is one. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of real numbers is one. -/
theorem IsReal.sum {n : ℕ} {f : Fin n → EReal} (h : ∀ k, IsReal (f k)) : IsReal (∑ k, f k) := by
  classical
  refine Finset.sum_induction f IsReal (fun _ _ => IsReal.add) ⟨0, rfl⟩ (fun k _ => h k)

/-- A real number less itself is zero. -/
theorem IsReal.sub_self {x : EReal} (hx : IsReal x) : x - x = 0 := by
  obtain ⟨a, rfl⟩ := hx
  rw [← EReal.coe_sub, _root_.sub_self, EReal.coe_zero]

/-- What is neither infinity is a real number. -/
theorem isReal_of_ne {x : EReal} (h₁ : x ≠ ⊥) (h₂ : x ≠ ⊤) : IsReal x :=
  ⟨x.toReal, (EReal.coe_toReal h₂ h₁).symm⟩

/-- The token in batch `s / 128` at position `s % 128`. -/
def tok (s : Fin 256) : Fin 2 × Fin 128 := (⟨s.val / 128, by omega⟩, ⟨s.val % 128, by omega⟩)

/-- `x` at token `s`: the value of the code. -/
def fX (a : (⟨3, ![2, 128, 7168]⟩ : Shape).Idx → BitVec 8) (s : Fin 256) (i : Fin 7168) : EReal :=
  Ideal.ofBits .fp8e4m3 (a (ix3 (tok s).1 (tok s).2 i))

/-- `dy` at token `s`: the value of the code. -/
def fD (a : (⟨3, ![2, 128, 18432]⟩ : Shape).Idx → BitVec 8) (s : Fin 256) (o : Fin 18432) : EReal :=
  Ideal.ofBits .fp8e5m2 (a (ix3 (tok s).1 (tok s).2 o))

/-- A scale per token, at token `s`. -/
def fS (a : (⟨2, ![2, 128]⟩ : Shape).Idx → EReal) (s : Fin 256) : EReal := a (ix2 (tok s).1 (tok s).2)

/-- A matrix, at a row and a column. -/
def fM {n k : ℕ} (a : (⟨2, ![n, k]⟩ : Shape).Idx → EReal) (i : Fin n) (j : Fin k) : EReal := a (ix2 i j)

/-- A vector, at a place. -/
def fV {n : ℕ} (a : (⟨1, ![n]⟩ : Shape).Idx → EReal) (i : Fin n) : EReal := a (ix1 i)

/-- `t = (dy · lora_bᵀ)`, each row times its scale. -/
def T (D : Fin 256 → Fin 18432 → EReal) (sd : Fin 256 → EReal) (B : Fin 32 → Fin 18432 → EReal)
    (s : Fin 256) (r : Fin 32) : EReal := (∑ o, D s o * B r o) * sd s

/-- `xa = (x · lora_a)`, each row times its scale. -/
def XA (X : Fin 256 → Fin 7168 → EReal) (sx : Fin 256 → EReal) (A : Fin 7168 → Fin 32 → EReal)
    (s : Fin 256) (r : Fin 32) : EReal := (∑ i, X s i * A i r) * sx s

/-- `dx = (dy · w0ᵀ) · (scale of the row · scale of the column) + 2 · (t · lora_aᵀ)`. -/
def DX (D : Fin 256 → Fin 18432 → EReal) (sd : Fin 256 → EReal) (W : Fin 7168 → Fin 18432 → EReal)
    (ws : Fin 7168 → EReal) (A : Fin 7168 → Fin 32 → EReal) (t : Fin 256 → Fin 32 → EReal)
    (s : Fin 256) (i : Fin 7168) : EReal :=
  (∑ o, D s o * W i o) * (sd s * ws i) + 2 * ∑ r, t s r * A i r

/-- `d lora_a = 2 · xᵀ · (scale · t)`. -/
def DA (X : Fin 256 → Fin 7168 → EReal) (sx : Fin 256 → EReal) (t : Fin 256 → Fin 32 → EReal)
    (i : Fin 7168) (r : Fin 32) : EReal := 2 * ∑ s, X s i * (sx s * t s r)

/-- `d lora_b = 2 · (xa · scale)ᵀ · dy`. -/
def DB (D : Fin 256 → Fin 18432 → EReal) (sd : Fin 256 → EReal) (xa : Fin 256 → Fin 32 → EReal)
    (r : Fin 32) (o : Fin 18432) : EReal := 2 * ∑ s, xa s r * sd s * D s o

/-- The constant `2.0` is the number two. -/
theorem ofBits_two : Ideal.ofBits .f32 0x40000000#32 = 2 := by
  simp [Ideal.ofBits, Ideal.ieee, -EReal.coe_mul]
  norm_num
  rfl

end Cert.Lora
end
-- ==== Proof.KValue.lean ====
/- What the kernel's blocks hold over the extended reals, entry by entry. -/
module

public import proofs.«01_k».proof.Proof.KBlocks
public import proofs.«01_k».proof.Proof.Math

@[expose] public section

set_option maxRecDepth 16384

noncomputable section

namespace Cert.KernelIdeal.Hand

open Cert.KernelIdeal.Gen
open Idealize.ShloMosaic Idealize.ShloMosaic.TcCoe
open Cert.Lora

/-- The row of scales of `x` at token `s` is the scale of batch `s / 128` at position `s % 128`. -/
theorem sxRow_apply (x1 : Vec Ideal S2x128 .f32) (s : Fin 256) :
    sxRow x1 (ix2 0 s) = x1 (ix2 (tok s).1 (tok s).2) := by
  unfold sxRow k0_pay4
  pointwise
  split
  · rename_i h
    exact congrArg x1 (congrArg₂ ix2 (Fin.ext (by simp [tok]; omega)) (Fin.ext (by simp [tok]; omega)))
  · rename_i h
    exact congrArg x1 (congrArg₂ ix2 (Fin.ext (by simp [tok]; omega)) (Fin.ext (by simp [tok]; omega)))

/-- The row of scales of `dy` at token `s` is the scale of batch `s / 128` at position `s % 128`. -/
theorem sdRow_apply (x3 : Vec Ideal S2x128 .f32) (s : Fin 256) :
    sdRow x3 (ix2 0 s) = x3 (ix2 (tok s).1 (tok s).2) := sxRow_apply x3 s

/-- The transposed `xa`: a sum of products times the token's scale. -/
theorem xaRow_apply (x0 : Vec Ideal S256x7168 .fp8e4m3) (x1 : Vec Ideal S2x128 .f32) (x6 : Vec Ideal S32x7168 .bf16)
    (r : Fin 32) (s : Fin 256) :
    xaRow x0 x1 x6 (ix2 r s) = (∑ i, x6 (ix2 r i) * x0 (ix2 s i)) * sxRow x1 (ix2 0 s) := by
  unfold xaRow k0_pay6 sxRow
  pointwise

/-- The transposed `t`: a sum of products times the token's scale. -/
theorem tRow_apply (x2 : Vec Ideal S256x18432 .fp8e5m2) (x3 : Vec Ideal S2x128 .f32) (x8 : Vec Ideal S32x18432 .bf16)
    (r : Fin 32) (s : Fin 256) :
    tRow x2 x3 x8 (ix2 r s) = (∑ o, x8 (ix2 r o) * x2 (ix2 s o)) * sdRow x3 (ix2 0 s) := by
  unfold tRow k0_pay7 sdRow
  pointwise

/-- The block of `xa` is the transposed `xa`, transposed. -/
theorem xaOut_apply (x0 : Vec Ideal S256x7168 .fp8e4m3) (x1 : Vec Ideal S2x128 .f32) (x6 : Vec Ideal S32x7168 .bf16)
    (s : Fin 256) (r : Fin 32) : xaOut x0 x1 x6 (ix2 s r) = xaRow x0 x1 x6 (ix2 r s) := by
  unfold xaOut k0_pay8 xaRow
  pointwise

/-- The block of `t` is the transposed `t`, transposed. -/
theorem tOut_apply (x2 : Vec Ideal S256x18432 .fp8e5m2) (x3 : Vec Ideal S2x128 .f32) (x8 : Vec Ideal S32x18432 .bf16)
    (s : Fin 256) (r : Fin 32) : tOut x2 x3 x8 (ix2 s r) = tRow x2 x3 x8 (ix2 r s) := by
  unfold tOut k0_pay9 tRow
  pointwise

/-- The column of the scales of `dy` in the second scratch. -/
theorem dcScr_apply (x3 : Vec Ideal S2x128 .f32) (s : Fin 256) (l : Fin 128) :
    dcScr x3 (ix2 s l) = sdRow x3 (ix2 0 s) := by
  unfold dcScr k0_pay10 sdRow
  rw [shapeCast_id, shapeCast_id]
  generalize k0_pay5 _ _ = p
  pointwise

/-- The first scratch holds `t` in its first 32 columns and, `t` being real, zero elsewhere. -/
theorem t3Scr_apply (x2 : Vec Ideal S256x18432 .fp8e5m2) (x3 : Vec Ideal S2x128 .f32) (x8 : Vec Ideal S32x18432 .bf16)
    (h : ∀ r s, IsReal (tRow x2 x3 x8 (ix2 r s))) (s : Fin 256) (q : Fin 96) :
    t3Scr x2 x3 x8 (ix2 s q) = if h : q.val < 32 then tRow x2 x3 x8 (ix2 ⟨q.val, h⟩ s) else 0 := by
  unfold t3Scr k0_pay14 k0_pay13 k0_pay12 k0_pay11
  unfold tRow at h ⊢
  generalize k0_pay7 (F := Ideal) _ _ _ _ = w at h ⊢
  pointwise
  split
  · rfl
  · split
    · exact (h _ _).sub_self
    · rw [(h _ _).sub_self, sub_zero]

/-- The three parts of a product of real numbers: the product, zero and zero. -/
theorem pay15_apply (v : FVec Ideal S1x256 .f32) (w : FVec Ideal S32x256 .f32)
    (h : ∀ (r : Fin 32) (s : Fin 256), IsReal (w (ix2 r s) * v (ix2 0 s))) (q : Fin 96) (s : Fin 256) :
    k0_pay15 v w (ix2 q s) = if h : q.val < 32 then w (ix2 ⟨q.val, h⟩ s) * v (ix2 0 s) else 0 := by
  unfold k0_pay15
  pointwise
  split
  · rfl
  · split
    · exact (h _ _).sub_self
    · rw [(h _ _).sub_self, sub_zero]

/-- Adding the three parts' products again gives the products of the whole. -/
theorem sum3_pay15 (v : FVec Ideal S1x256 .f32) (w : FVec Ideal S32x256 .f32)
    (h : ∀ (r : Fin 32) (s : Fin 256), IsReal (w (ix2 r s) * v (ix2 0 s))) (r : Fin 32)
    (y : Fin 256 → EReal) (h₂ : 64 + r.val < 96) (h₁ : 32 + r.val < 96) (h₀ : r.val < 96) :
    (∑ x, k0_pay15 v w (ix2 ⟨64 + r.val, h₂⟩ x) * y x + ∑ x, k0_pay15 v w (ix2 ⟨32 + r.val, h₁⟩ x) * y x +
        ∑ x, k0_pay15 v w (ix2 ⟨r.val, h₀⟩ x) * y x) = ∑ x, w (ix2 r x) * v (ix2 0 x) * y x := by
  have e₂ : ∀ x, k0_pay15 v w (ix2 ⟨64 + r.val, h₂⟩ x) = 0 := fun x => by
    rw [pay15_apply v w h, dif_neg (by simp; omega)]
  have e₁ : ∀ x, k0_pay15 v w (ix2 ⟨32 + r.val, h₁⟩ x) = 0 := fun x => by
    rw [pay15_apply v w h, dif_neg (by simp)]
  have e₀ : ∀ x, k0_pay15 v w (ix2 ⟨r.val, h₀⟩ x) = w (ix2 r x) * v (ix2 0 x) := fun x => by
    rw [pay15_apply v w h, dif_pos r.isLt]
  simp only [e₂, e₁, e₀, zero_mul, Finset.sum_const_zero, zero_add]

/-- The three parts of a product of real numbers: the product, zero and zero. -/
theorem pay29_apply (v : FVec Ideal S1x256 .f32) (w : FVec Ideal S32x256 .f32)
    (h : ∀ (r : Fin 32) (s : Fin 256), IsReal (w (ix2 r s) * v (ix2 0 s))) (q : Fin 96) (s : Fin 256) :
    k0_pay29 v w (ix2 q s) = if h : q.val < 32 then w (ix2 ⟨q.val, h⟩ s) * v (ix2 0 s) else 0 := by
  unfold k0_pay29
  pointwise
  split
  · rfl
  · split
    · exact (h _ _).sub_self
    · rw [(h _ _).sub_self, sub_zero]

/-- Adding the three parts' products again gives the products of the whole. -/
theorem sum3_pay29 (v : FVec Ideal S1x256 .f32) (w : FVec Ideal S32x256 .f32)
    (h : ∀ (r : Fin 32) (s : Fin 256), IsReal (w (ix2 r s) * v (ix2 0 s))) (r : Fin 32)
    (y : Fin 256 → EReal) (h₂ : 64 + r.val < 96) (h₁ : 32 + r.val < 96) (h₀ : r.val < 96) :
    (∑ x, k0_pay29 v w (ix2 ⟨64 + r.val, h₂⟩ x) * y x + ∑ x, k0_pay29 v w (ix2 ⟨32 + r.val, h₁⟩ x) * y x +
        ∑ x, k0_pay29 v w (ix2 ⟨r.val, h₀⟩ x) * y x) = ∑ x, w (ix2 r x) * v (ix2 0 x) * y x := by
  have e₂ : ∀ x, k0_pay29 v w (ix2 ⟨64 + r.val, h₂⟩ x) = 0 := fun x => by
    rw [pay29_apply v w h, dif_neg (by simp; omega)]
  have e₁ : ∀ x, k0_pay29 v w (ix2 ⟨32 + r.val, h₁⟩ x) = 0 := fun x => by
    rw [pay29_apply v w h, dif_neg (by simp)]
  have e₀ : ∀ x, k0_pay29 v w (ix2 ⟨r.val, h₀⟩ x) = w (ix2 r x) * v (ix2 0 x) := fun x => by
    rw [pay29_apply v w h, dif_pos r.isLt]
  simp only [e₂, e₁, e₀, zero_mul, Finset.sum_const_zero, zero_add]

/-- What store 0 into the block of `dB` writes. -/
theorem dbPay0 (v : FVec Ideal S1x256 .f32) (w : FVec Ideal S32x256 .f32) (Y : Vec Ideal S256x2048 .fp8e5m2)
    (h : ∀ (r : Fin 32) (s : Fin 256), IsReal (w (ix2 r s) * v (ix2 0 s))) (r : Fin 32) (o : Fin 2048) :
    k0_pay16 v w Y (ix2 r o) = 2 * ∑ x, w (ix2 r x) * v (ix2 0 x) * Y (ix2 x o) := by
  unfold k0_pay16
  pointwise
  rw [ofBits_two, sum3_pay15 v w h r (fun x => Y (ix2 x o))]

/-- What store 1 into the block of `dB` writes. -/
theorem dbPay1 (v : FVec Ideal S1x256 .f32) (w : FVec Ideal S32x256 .f32) (Y : Vec Ideal S256x2048 .fp8e5m2)
    (h : ∀ (r : Fin 32) (s : Fin 256), IsReal (w (ix2 r s) * v (ix2 0 s))) (r : Fin 32) (o : Fin 2048) :
    k0_pay17 v w Y (ix2 r o) = 2 * ∑ x, w (ix2 r x) * v (ix2 0 x) * Y (ix2 x o) := by
  unfold k0_pay17
  pointwise
  rw [ofBits_two, sum3_pay15 v w h r (fun x => Y (ix2 x o))]

/-- What store 2 into the block of `dB` writes. -/
theorem dbPay2 (v : FVec Ideal S1x256 .f32) (w : FVec Ideal S32x256 .f32) (Y : Vec Ideal S256x2048 .fp8e5m2)
    (h : ∀ (r : Fin 32) (s : Fin 256), IsReal (w (ix2 r s) * v (ix2 0 s))) (r : Fin 32) (o : Fin 2048) :
    k0_pay18 (k0_pay15 v w) Y (ix2 r o) = 2 * ∑ x, w (ix2 r x) * v (ix2 0 x) * Y (ix2 x o) := by
  unfold k0_pay18
  pointwise
  rw [ofBits_two, sum3_pay15 v w h r (fun x => Y (ix2 x o))]

/-- What store 3 into the block of `dB` writes. -/
theorem dbPay3 (v : FVec Ideal S1x256 .f32) (w : FVec Ideal S32x256 .f32) (Y : Vec Ideal S256x2048 .fp8e5m2)
    (h : ∀ (r : Fin 32) (s : Fin 256), IsReal (w (ix2 r s) * v (ix2 0 s))) (r : Fin 32) (o : Fin 2048) :
    k0_pay19 (k0_pay15 v w) Y (ix2 r o) = 2 * ∑ x, w (ix2 r x) * v (ix2 0 x) * Y (ix2 x o) := by
  unfold k0_pay19
  pointwise
  rw [ofBits_two, sum3_pay15 v w h r (fun x => Y (ix2 x o))]

/-- What store 4 into the block of `dB` writes. -/
theorem dbPay4 (v : FVec Ideal S1x256 .f32) (w : FVec Ideal S32x256 .f32) (Y : Vec Ideal S256x2048 .fp8e5m2)
    (h : ∀ (r : Fin 32) (s : Fin 256), IsReal (w (ix2 r s) * v (ix2 0 s))) (r : Fin 32) (o : Fin 2048) :
    k0_pay20 (k0_pay15 v w) Y (ix2 r o) = 2 * ∑ x, w (ix2 r x) * v (ix2 0 x) * Y (ix2 x o) := by
  unfold k0_pay20
  pointwise
  rw [ofBits_two, sum3_pay15 v w h r (fun x => Y (ix2 x o))]

/-- What store 5 into the block of `dB` writes. -/
theorem dbPay5 (v : FVec Ideal S1x256 .f32) (w : FVec Ideal S32x256 .f32) (Y : Vec Ideal S256x2048 .fp8e5m2)
    (h : ∀ (r : Fin 32) (s : Fin 256), IsReal (w (ix2 r s) * v (ix2 0 s))) (r : Fin 32) (o : Fin 2048) :
    k0_pay23 (k0_pay21 (k0_pay15 v w) Y) (k0_pay22 (k0_pay15 v w) Y) (ix2 r o) = 2 * ∑ x, w (ix2 r x) * v (ix2 0 x) * Y (ix2 x o) := by
  unfold k0_pay23 k0_pay22 k0_pay21
  pointwise
  rw [ofBits_two, sum3_pay15 v w h r (fun x => Y (ix2 x o))]

/-- What store 6 into the block of `dB` writes. -/
theorem dbPay6 (v : FVec Ideal S1x256 .f32) (w : FVec Ideal S32x256 .f32) (Y : Vec Ideal S256x2048 .fp8e5m2)
    (h : ∀ (r : Fin 32) (s : Fin 256), IsReal (w (ix2 r s) * v (ix2 0 s))) (r : Fin 32) (o : Fin 2048) :
    k0_pay24 (k0_pay15 v w) Y (ix2 r o) = 2 * ∑ x, w (ix2 r x) * v (ix2 0 x) * Y (ix2 x o) := by
  unfold k0_pay24
  pointwise
  rw [ofBits_two, sum3_pay15 v w h r (fun x => Y (ix2 x o))]

/-- What store 7 into the block of `dB` writes. -/
theorem dbPay7 (v : FVec Ideal S1x256 .f32) (w : FVec Ideal S32x256 .f32) (Y : Vec Ideal S256x2048 .fp8e5m2)
    (h : ∀ (r : Fin 32) (s : Fin 256), IsReal (w (ix2 r s) * v (ix2 0 s))) (r : Fin 32) (o : Fin 2048) :
    k0_pay25 (k0_pay15 v w) Y (ix2 r o) = 2 * ∑ x, w (ix2 r x) * v (ix2 0 x) * Y (ix2 x o) := by
  unfold k0_pay25
  pointwise
  rw [ofBits_two, sum3_pay15 v w h r (fun x => Y (ix2 x o))]

/-- What store 8 into the block of `dB` writes. -/
theorem dbPay8 (v : FVec Ideal S1x256 .f32) (w : FVec Ideal S32x256 .f32) (Y : Vec Ideal S256x2048 .fp8e5m2)
    (h : ∀ (r : Fin 32) (s : Fin 256), IsReal (w (ix2 r s) * v (ix2 0 s))) (r : Fin 32) (o : Fin 2048) :
    k0_pay28 (k0_pay26 (k0_pay15 v w) Y) k0_pay27 (ix2 r o) = 2 * ∑ x, w (ix2 r x) * v (ix2 0 x) * Y (ix2 x o) := by
  unfold k0_pay28 k0_pay27 k0_pay26
  pointwise
  rw [ofBits_two, sum3_pay15 v w h r (fun x => Y (ix2 x o))]

/-- What store 0 into the block of `dA` writes. -/
theorem daPay0 (v : FVec Ideal S1x256 .f32) (w : FVec Ideal S32x256 .f32) (Y : Vec Ideal S256x1792 .fp8e4m3)
    (h : ∀ (r : Fin 32) (s : Fin 256), IsReal (w (ix2 r s) * v (ix2 0 s))) (r : Fin 32) (o : Fin 1792) :
    k0_pay30 v w Y (ix2 r o) = 2 * ∑ x, w (ix2 r x) * v (ix2 0 x) * Y (ix2 x o) := by
  unfold k0_pay30
  pointwise
  rw [ofBits_two, sum3_pay29 v w h r (fun x => Y (ix2 x o))]

/-- What store 1 into the block of `dA` writes. -/
theorem daPay1 (v : FVec Ideal S1x256 .f32) (w : FVec Ideal S32x256 .f32) (Y : Vec Ideal S256x1792 .fp8e4m3)
    (h : ∀ (r : Fin 32) (s : Fin 256), IsReal (w (ix2 r s) * v (ix2 0 s))) (r : Fin 32) (o : Fin 1792) :
    k0_pay31 v w Y (ix2 r o) = 2 * ∑ x, w (ix2 r x) * v (ix2 0 x) * Y (ix2 x o) := by
  unfold k0_pay31
  pointwise
  rw [ofBits_two, sum3_pay29 v w h r (fun x => Y (ix2 x o))]

/-- What store 2 into the block of `dA` writes. -/
theorem daPay2 (v : FVec Ideal S1x256 .f32) (w : FVec Ideal S32x256 .f32) (Y : Vec Ideal S256x1792 .fp8e4m3)
    (h : ∀ (r : Fin 32) (s : Fin 256), IsReal (w (ix2 r s) * v (ix2 0 s))) (r : Fin 32) (o : Fin 1792) :
    k0_pay1 (k0_pay32 v w Y) (k0_pay33 v w Y) (ix2 r o) = 2 * ∑ x, w (ix2 r x) * v (ix2 0 x) * Y (ix2 x o) := by
  unfold k0_pay1 k0_pay33 k0_pay32
  pointwise
  rw [ofBits_two, sum3_pay29 v w h r (fun x => Y (ix2 x o))]

/-- What store 3 into the block of `dA` writes. -/
theorem daPay3 (v : FVec Ideal S1x256 .f32) (w : FVec Ideal S32x256 .f32) (Y : Vec Ideal S256x1792 .fp8e4m3)
    (h : ∀ (r : Fin 32) (s : Fin 256), IsReal (w (ix2 r s) * v (ix2 0 s))) (r : Fin 32) (o : Fin 1792) :
    k0_pay2 (k0_pay29 v w) Y (ix2 r o) = 2 * ∑ x, w (ix2 r x) * v (ix2 0 x) * Y (ix2 x o) := by
  unfold k0_pay2
  pointwise
  rw [ofBits_two, sum3_pay29 v w h r (fun x => Y (ix2 x o))]

/-- A sum over 96 terms of which the last 64 vanish is the sum of the first 32. -/
theorem sum_96 (f : Fin 96 → EReal) (h : ∀ q : Fin 96, ¬ q.val < 32 → f q = 0) :
    ∑ q, f q = ∑ r : Fin 32, f ⟨r.val, by omega⟩ := by
  have e := Fin.sum_univ_add (a := 32) (b := 64) f
  rw [show (∑ q : Fin 96, f q) = ∑ q : Fin (32 + 64), f q from rfl, e]
  rw [show (∑ i : Fin 64, f (Fin.natAdd 32 i)) = 0 from
    Finset.sum_eq_zero fun i _ => h _ (by simp [Fin.natAdd])]
  rw [add_zero]
  rfl

/-- A block of `dx`, given what the two scratches hold. -/
theorem dxBlk_apply (s0 : Vec Ideal S256x96 .bf16) (s1 : Vec Ideal S256x128 .f32) (x2 : Vec Ideal S256x18432 .fp8e5m2)
    (x4 : Vec Ideal S512x18432 .fp8e4m3) (x5 : Vec Ideal S1x512 .f32) (x7 : Vec Ideal S32x512 .bf16)
    (t : Fin 256 → Fin 32 → EReal) (sd : Fin 256 → EReal)
    (h0 : ∀ (s : Fin 256) (q : Fin 96), s0 (ix2 s q) = if h : q.val < 32 then t s ⟨q.val, h⟩ else 0)
    (h1 : ∀ s : Fin 256, s1 (ix2 s 0) = sd s) (s : Fin 256) (i : Fin 512) :
    dxBlk s0 s1 x2 x4 x5 x7 (ix2 s i) =
      (∑ o, x2 (ix2 s o) * x4 (ix2 i o)) * (sd s * x5 (ix2 0 i)) + 2 * ∑ r, t s r * x7 (ix2 r i) := by
  unfold dxBlk k0_pay3
  pointwise
  rw [ofBits_two, h1 s]
  refine Ideal.add_congr (Ideal.mul_congr (Finset.sum_congr rfl fun o _ => mul_comm _ _) rfl) (Ideal.mul_congr rfl ?_)
  refine (sum_96 _ fun q hq => ?_).trans ?_
  · simp only [h0, dif_neg hq, zero_mul]
  refine Finset.sum_congr rfl fun r _ => ?_
  simp only [h0, dif_pos r.isLt]

/-- Where the index `(x, o)` of a part of a block, all its rows and `b` columns from `k`, lies in the block. -/
theorem unit_idx {A B b k : ℕ} (inb : ∀ a, (![0, k] : Fin 2 → ℕ) a + (![A, b] : Fin 2 → ℕ) a ≤ (⟨2, ![A, B]⟩ : Shape).size a)
    (x : Fin A) (o : Fin b) (h : k + o.val < B) :
    (Rect.unit (s := ⟨2, ![A, B]⟩) ![0, k] ![A, b] inb).idx (ix2 x o) = ix2 x ⟨k + o.val, h⟩ := by
  funext a
  match a with
  | ⟨0, _⟩ => exact Fin.ext (show 0 + 1 * x.val = x.val by omega)
  | ⟨1, _⟩ => exact Fin.ext (show k + 1 * o.val = k + o.val by omega)

/-- What the block of `dA` holds at row `r`, column `i`. -/
def daH (x0 : Vec Ideal S256x7168 .fp8e4m3) (x1 : Vec Ideal S2x128 .f32) (x2 : Vec Ideal S256x18432 .fp8e5m2) (x3 : Vec Ideal S2x128 .f32) (x8 : Vec Ideal S32x18432 .bf16) (r : Fin 32) (i : Fin 7168) : EReal :=
  2 * ∑ s, tRow x2 x3 x8 (ix2 r s) * sxRow x1 (ix2 0 s) * x0 (ix2 s i)

/-- The function of which every store into the block of `dA` writes a part. -/
def daG (x0 : Vec Ideal S256x7168 .fp8e4m3) (x1 : Vec Ideal S2x128 .f32) (x2 : Vec Ideal S256x18432 .fp8e5m2) (x3 : Vec Ideal S2x128 .f32) (x8 : Vec Ideal S32x18432 .bf16) (y : S32x7168.Idx) : EReal := daH x0 x1 x2 x3 x8 (y 0) (y 1)

/-- That function at a row and a column. -/
theorem daG_ix2 (x0 : Vec Ideal S256x7168 .fp8e4m3) (x1 : Vec Ideal S2x128 .f32) (x2 : Vec Ideal S256x18432 .fp8e5m2) (x3 : Vec Ideal S2x128 .f32) (x8 : Vec Ideal S32x18432 .bf16) (r : Fin 32) (i : Fin 7168) : daG x0 x1 x2 x3 x8 (ix2 r i) = daH x0 x1 x2 x3 x8 r i := rfl

/-- That function at an index of a store. -/
theorem daG_emb (x0 : Vec Ideal S256x7168 .fp8e4m3) (x1 : Vec Ideal S2x128 .f32) (x2 : Vec Ideal S256x18432 .fp8e5m2) (x3 : Vec Ideal S2x128 .f32) (x8 : Vec Ideal S32x18432 .bf16) (k : ℕ)
    (inb : ∀ a, (![0, k] : Fin 2 → ℕ) a + (![32, 1792] : Fin 2 → ℕ) a ≤ S32x7168.size a)
    (r : Fin 32) (o : Fin 1792) (h : k + o.val < 7168) :
    daG x0 x1 x2 x3 x8 ((Rect.unit (s := S32x7168) ![0, k] ![32, 1792] inb).emb (ix2 r o)) = daH x0 x1 x2 x3 x8 r ⟨k + o.val, h⟩ := by
  have e : (Rect.unit (s := S32x7168) ![0, k] ![32, 1792] inb).emb (ix2 r o) = (ix2 r ⟨k + o.val, h⟩ : S32x7168.Idx) := unit_idx inb r o h
  exact (congrArg (daG x0 x1 x2 x3 x8) e).trans (daG_ix2 _ _ _ _ _ _ _)

/-- The columns from `k` of the operand at an index. -/
theorem da_ld (x : Vec Ideal S256x7168 .fp8e4m3) (k : ℕ)
    (inb : ∀ a, (![0, k] : Fin 2 → ℕ) a + (![256, 1792] : Fin 2 → ℕ) a ≤ S256x7168.size a)
    (s : Fin 256) (o : Fin 1792) (h : k + o.val < 7168) :
    View.ld x (Rect.unit (s := S256x7168) ![0, k] ![256, 1792] inb) (ix2 s o) = x (ix2 s ⟨k + o.val, h⟩) :=
  congrArg x (unit_idx inb s o h)

/-- Store 0 into the block of `dA` writes its part of the function of the block. -/
theorem daPiece0 (x0 : Vec Ideal S256x7168 .fp8e4m3) (x1 : Vec Ideal S2x128 .f32) (x2 : Vec Ideal S256x18432 .fp8e5m2) (x3 : Vec Ideal S2x128 .f32) (x8 : Vec Ideal S32x18432 .bf16)
    (h : ∀ (r : Fin 32) (s : Fin 256), IsReal (tRow x2 x3 x8 (ix2 r s) * sxRow x1 (ix2 0 s))) (y : S32x1792.Idx) :
    k0_pay30 (sxRow x1) (tRow x2 x3 x8) (View.ld x0 (Rect.unit ![0, 0] ![256, 1792] inb_S256x7168_S256x1792_0_0)) y =
      daG x0 x1 x2 x3 x8 ((Rect.unit (s := S32x7168) ![0, 0] ![32, 1792] inb_S32x7168_S32x1792_0_0).emb y) := by
  idx_vars y
  have hl : 0 + y1.val < 7168 := by omega
  rw [daG_emb x0 x1 x2 x3 x8 0 inb_S32x7168_S32x1792_0_0 y0 y1 hl, daPay0 _ _ _ h]
  unfold daH
  refine Ideal.mul_congr rfl (Finset.sum_congr rfl fun s _ => Ideal.mul_congr rfl ?_)
  exact da_ld x0 0 inb_S256x7168_S256x1792_0_0 s y1 hl

/-- Store 1 into the block of `dA` writes its part of the function of the block. -/
theorem daPiece1 (x0 : Vec Ideal S256x7168 .fp8e4m3) (x1 : Vec Ideal S2x128 .f32) (x2 : Vec Ideal S256x18432 .fp8e5m2) (x3 : Vec Ideal S2x128 .f32) (x8 : Vec Ideal S32x18432 .bf16)
    (h : ∀ (r : Fin 32) (s : Fin 256), IsReal (tRow x2 x3 x8 (ix2 r s) * sxRow x1 (ix2 0 s))) (y : S32x1792.Idx) :
    k0_pay31 (sxRow x1) (tRow x2 x3 x8) (View.ld x0 (Rect.unit ![0, 1792] ![256, 1792] inb_S256x7168_S256x1792_0_1792)) y =
      daG x0 x1 x2 x3 x8 ((Rect.unit (s := S32x7168) ![0, 1792] ![32, 1792] inb_S32x7168_S32x1792_0_1792).emb y) := by
  idx_vars y
  have hl : 1792 + y1.val < 7168 := by omega
  rw [daG_emb x0 x1 x2 x3 x8 1792 inb_S32x7168_S32x1792_0_1792 y0 y1 hl, daPay1 _ _ _ h]
  unfold daH
  refine Ideal.mul_congr rfl (Finset.sum_congr rfl fun s _ => Ideal.mul_congr rfl ?_)
  exact da_ld x0 1792 inb_S256x7168_S256x1792_0_1792 s y1 hl

/-- Store 2 into the block of `dA` writes its part of the function of the block. -/
theorem daPiece2 (x0 : Vec Ideal S256x7168 .fp8e4m3) (x1 : Vec Ideal S2x128 .f32) (x2 : Vec Ideal S256x18432 .fp8e5m2) (x3 : Vec Ideal S2x128 .f32) (x8 : Vec Ideal S32x18432 .bf16)
    (h : ∀ (r : Fin 32) (s : Fin 256), IsReal (tRow x2 x3 x8 (ix2 r s) * sxRow x1 (ix2 0 s))) (y : S32x1792.Idx) :
    k0_pay1 (k0_pay32 (sxRow x1) (tRow x2 x3 x8) (View.ld x0 (Rect.unit ![0, 3584] ![256, 1792] inb_S256x7168_S256x1792_0_3584))) (k0_pay33 (sxRow x1) (tRow x2 x3 x8) (View.ld x0 (Rect.unit ![0, 3584] ![256, 1792] inb_S256x7168_S256x1792_0_3584))) y =
      daG x0 x1 x2 x3 x8 ((Rect.unit (s := S32x7168) ![0, 3584] ![32, 1792] inb_S32x7168_S32x1792_0_3584).emb y) := by
  idx_vars y
  have hl : 3584 + y1.val < 7168 := by omega
  rw [daG_emb x0 x1 x2 x3 x8 3584 inb_S32x7168_S32x1792_0_3584 y0 y1 hl, daPay2 _ _ _ h]
  unfold daH
  refine Ideal.mul_congr rfl (Finset.sum_congr rfl fun s _ => Ideal.mul_congr rfl ?_)
  exact da_ld x0 3584 inb_S256x7168_S256x1792_0_3584 s y1 hl

/-- Store 3 into the block of `dA` writes its part of the function of the block. -/
theorem daPiece3 (x0 : Vec Ideal S256x7168 .fp8e4m3) (x1 : Vec Ideal S2x128 .f32) (x2 : Vec Ideal S256x18432 .fp8e5m2) (x3 : Vec Ideal S2x128 .f32) (x8 : Vec Ideal S32x18432 .bf16)
    (h : ∀ (r : Fin 32) (s : Fin 256), IsReal (tRow x2 x3 x8 (ix2 r s) * sxRow x1 (ix2 0 s))) (y : S32x1792.Idx) :
    k0_pay2 (k0_pay29 (sxRow x1) (tRow x2 x3 x8)) (View.ld x0 (Rect.unit ![0, 5376] ![256, 1792] inb_S256x7168_S256x1792_0_5376)) y =
      daG x0 x1 x2 x3 x8 ((Rect.unit (s := S32x7168) ![0, 5376] ![32, 1792] inb_S32x7168_S32x1792_0_5376).emb y) := by
  idx_vars y
  have hl : 5376 + y1.val < 7168 := by omega
  rw [daG_emb x0 x1 x2 x3 x8 5376 inb_S32x7168_S32x1792_0_5376 y0 y1 hl, daPay3 _ _ _ h]
  unfold daH
  refine Ideal.mul_congr rfl (Finset.sum_congr rfl fun s _ => Ideal.mul_congr rfl ?_)
  exact da_ld x0 5376 inb_S256x7168_S256x1792_0_5376 s y1 hl

/-- Every store into the block of `dA` writes its part of one function. -/
theorem daL_pieces (x0 : Vec Ideal S256x7168 .fp8e4m3) (x1 : Vec Ideal S2x128 .f32) (x2 : Vec Ideal S256x18432 .fp8e5m2) (x3 : Vec Ideal S2x128 .f32) (x8 : Vec Ideal S32x18432 .bf16)
    (h : ∀ (r : Fin 32) (s : Fin 256), IsReal (tRow x2 x3 x8 (ix2 r s) * sxRow x1 (ix2 0 s))) :
    ∀ p ∈ daL x0 x1 x2 x3 x8, ∀ x : p.1.shape.Idx, p.2 x = daG x0 x1 x2 x3 x8 (p.1.emb x) := by
  unfold daL
  exact List.forall_mem_cons.2 ⟨daPiece3 x0 x1 x2 x3 x8 h, List.forall_mem_cons.2 ⟨daPiece2 x0 x1 x2 x3 x8 h, List.forall_mem_cons.2 ⟨daPiece1 x0 x1 x2 x3 x8 h, List.forall_mem_cons.2 ⟨daPiece0 x0 x1 x2 x3 x8 h, fun _ hm => absurd hm List.not_mem_nil⟩⟩⟩⟩

/-- Every entry of the block of `dA` lies in some store. -/
theorem daL_cover (x0 : Vec Ideal S256x7168 .fp8e4m3) (x1 : Vec Ideal S2x128 .f32) (x2 : Vec Ideal S256x18432 .fp8e5m2) (x3 : Vec Ideal S2x128 .f32) (x8 : Vec Ideal S32x18432 .bf16) (y : S32x7168.Idx) : ∃ pc ∈ daL x0 x1 x2 x3 x8, y ∈ pc.1.set :=
  View.cover_of_tiledL (daL x0 x1 x2 x3 x8) S32x1792.size (by sl_kernel_rfl) y

/-- The block of `dA`, entry by entry. -/
theorem daOut_apply (x0 : Vec Ideal S256x7168 .fp8e4m3) (x1 : Vec Ideal S2x128 .f32) (x2 : Vec Ideal S256x18432 .fp8e5m2) (x3 : Vec Ideal S2x128 .f32) (x8 : Vec Ideal S32x18432 .bf16)
    (h : ∀ (r : Fin 32) (s : Fin 256), IsReal (tRow x2 x3 x8 (ix2 r s) * sxRow x1 (ix2 0 s))) (r : Fin 32) (o : Fin 7168) :
    daOut x0 x1 x2 x3 x8 (ix2 r o) = 2 * ∑ s, tRow x2 x3 x8 (ix2 r s) * sxRow x1 (ix2 0 s) * x0 (ix2 s o) :=
  (View.canon_apply_of_pieces (daG x0 x1 x2 x3 x8) (daL x0 x1 x2 x3 x8) (daL_pieces x0 x1 x2 x3 x8 h) (ix2 r o) (daL_cover x0 x1 x2 x3 x8 (ix2 r o))).trans
    (daG_ix2 x0 x1 x2 x3 x8 r o)

/-- What the block of `dB` holds at row `r`, column `i`. -/
def dbH (x0 : Vec Ideal S256x7168 .fp8e4m3) (x1 : Vec Ideal S2x128 .f32) (x2 : Vec Ideal S256x18432 .fp8e5m2) (x3 : Vec Ideal S2x128 .f32) (x6 : Vec Ideal S32x7168 .bf16) (r : Fin 32) (i : Fin 18432) : EReal :=
  2 * ∑ s, xaRow x0 x1 x6 (ix2 r s) * sdRow x3 (ix2 0 s) * x2 (ix2 s i)

/-- The function of which every store into the block of `dB` writes a part. -/
def dbG (x0 : Vec Ideal S256x7168 .fp8e4m3) (x1 : Vec Ideal S2x128 .f32) (x2 : Vec Ideal S256x18432 .fp8e5m2) (x3 : Vec Ideal S2x128 .f32) (x6 : Vec Ideal S32x7168 .bf16) (y : S32x18432.Idx) : EReal := dbH x0 x1 x2 x3 x6 (y 0) (y 1)

/-- That function at a row and a column. -/
theorem dbG_ix2 (x0 : Vec Ideal S256x7168 .fp8e4m3) (x1 : Vec Ideal S2x128 .f32) (x2 : Vec Ideal S256x18432 .fp8e5m2) (x3 : Vec Ideal S2x128 .f32) (x6 : Vec Ideal S32x7168 .bf16) (r : Fin 32) (i : Fin 18432) : dbG x0 x1 x2 x3 x6 (ix2 r i) = dbH x0 x1 x2 x3 x6 r i := rfl

/-- That function at an index of a store. -/
theorem dbG_emb (x0 : Vec Ideal S256x7168 .fp8e4m3) (x1 : Vec Ideal S2x128 .f32) (x2 : Vec Ideal S256x18432 .fp8e5m2) (x3 : Vec Ideal S2x128 .f32) (x6 : Vec Ideal S32x7168 .bf16) (k : ℕ)
    (inb : ∀ a, (![0, k] : Fin 2 → ℕ) a + (![32, 2048] : Fin 2 → ℕ) a ≤ S32x18432.size a)
    (r : Fin 32) (o : Fin 2048) (h : k + o.val < 18432) :
    dbG x0 x1 x2 x3 x6 ((Rect.unit (s := S32x18432) ![0, k] ![32, 2048] inb).emb (ix2 r o)) = dbH x0 x1 x2 x3 x6 r ⟨k + o.val, h⟩ := by
  have e : (Rect.unit (s := S32x18432) ![0, k] ![32, 2048] inb).emb (ix2 r o) = (ix2 r ⟨k + o.val, h⟩ : S32x18432.Idx) := unit_idx inb r o h
  exact (congrArg (dbG x0 x1 x2 x3 x6) e).trans (dbG_ix2 _ _ _ _ _ _ _)

/-- The columns from `k` of the operand at an index. -/
theorem db_ld (x : Vec Ideal S256x18432 .fp8e5m2) (k : ℕ)
    (inb : ∀ a, (![0, k] : Fin 2 → ℕ) a + (![256, 2048] : Fin 2 → ℕ) a ≤ S256x18432.size a)
    (s : Fin 256) (o : Fin 2048) (h : k + o.val < 18432) :
    View.ld x (Rect.unit (s := S256x18432) ![0, k] ![256, 2048] inb) (ix2 s o) = x (ix2 s ⟨k + o.val, h⟩) :=
  congrArg x (unit_idx inb s o h)

/-- Store 0 into the block of `dB` writes its part of the function of the block. -/
theorem dbPiece0 (x0 : Vec Ideal S256x7168 .fp8e4m3) (x1 : Vec Ideal S2x128 .f32) (x2 : Vec Ideal S256x18432 .fp8e5m2) (x3 : Vec Ideal S2x128 .f32) (x6 : Vec Ideal S32x7168 .bf16)
    (h : ∀ (r : Fin 32) (s : Fin 256), IsReal (xaRow x0 x1 x6 (ix2 r s) * sdRow x3 (ix2 0 s))) (y : S32x2048.Idx) :
    k0_pay16 (sdRow x3) (xaRow x0 x1 x6) (View.ld x2 (Rect.unit ![0, 0] ![256, 2048] inb_S256x18432_S256x2048_0_0)) y =
      dbG x0 x1 x2 x3 x6 ((Rect.unit (s := S32x18432) ![0, 0] ![32, 2048] inb_S32x18432_S32x2048_0_0).emb y) := by
  idx_vars y
  have hl : 0 + y1.val < 18432 := by omega
  rw [dbG_emb x0 x1 x2 x3 x6 0 inb_S32x18432_S32x2048_0_0 y0 y1 hl, dbPay0 _ _ _ h]
  unfold dbH
  refine Ideal.mul_congr rfl (Finset.sum_congr rfl fun s _ => Ideal.mul_congr rfl ?_)
  exact db_ld x2 0 inb_S256x18432_S256x2048_0_0 s y1 hl

/-- Store 1 into the block of `dB` writes its part of the function of the block. -/
theorem dbPiece1 (x0 : Vec Ideal S256x7168 .fp8e4m3) (x1 : Vec Ideal S2x128 .f32) (x2 : Vec Ideal S256x18432 .fp8e5m2) (x3 : Vec Ideal S2x128 .f32) (x6 : Vec Ideal S32x7168 .bf16)
    (h : ∀ (r : Fin 32) (s : Fin 256), IsReal (xaRow x0 x1 x6 (ix2 r s) * sdRow x3 (ix2 0 s))) (y : S32x2048.Idx) :
    k0_pay17 (sdRow x3) (xaRow x0 x1 x6) (View.ld x2 (Rect.unit ![0, 2048] ![256, 2048] inb_S256x18432_S256x2048_0_2048)) y =
      dbG x0 x1 x2 x3 x6 ((Rect.unit (s := S32x18432) ![0, 2048] ![32, 2048] inb_S32x18432_S32x2048_0_2048).emb y) := by
  idx_vars y
  have hl : 2048 + y1.val < 18432 := by omega
  rw [dbG_emb x0 x1 x2 x3 x6 2048 inb_S32x18432_S32x2048_0_2048 y0 y1 hl, dbPay1 _ _ _ h]
  unfold dbH
  refine Ideal.mul_congr rfl (Finset.sum_congr rfl fun s _ => Ideal.mul_congr rfl ?_)
  exact db_ld x2 2048 inb_S256x18432_S256x2048_0_2048 s y1 hl

/-- Store 2 into the block of `dB` writes its part of the function of the block. -/
theorem dbPiece2 (x0 : Vec Ideal S256x7168 .fp8e4m3) (x1 : Vec Ideal S2x128 .f32) (x2 : Vec Ideal S256x18432 .fp8e5m2) (x3 : Vec Ideal S2x128 .f32) (x6 : Vec Ideal S32x7168 .bf16)
    (h : ∀ (r : Fin 32) (s : Fin 256), IsReal (xaRow x0 x1 x6 (ix2 r s) * sdRow x3 (ix2 0 s))) (y : S32x2048.Idx) :
    k0_pay18 (k0_pay15 (sdRow x3) (xaRow x0 x1 x6)) (View.ld x2 (Rect.unit ![0, 4096] ![256, 2048] inb_S256x18432_S256x2048_0_4096)) y =
      dbG x0 x1 x2 x3 x6 ((Rect.unit (s := S32x18432) ![0, 4096] ![32, 2048] inb_S32x18432_S32x2048_0_4096).emb y) := by
  idx_vars y
  have hl : 4096 + y1.val < 18432 := by omega
  rw [dbG_emb x0 x1 x2 x3 x6 4096 inb_S32x18432_S32x2048_0_4096 y0 y1 hl, dbPay2 _ _ _ h]
  unfold dbH
  refine Ideal.mul_congr rfl (Finset.sum_congr rfl fun s _ => Ideal.mul_congr rfl ?_)
  exact db_ld x2 4096 inb_S256x18432_S256x2048_0_4096 s y1 hl

/-- Store 3 into the block of `dB` writes its part of the function of the block. -/
theorem dbPiece3 (x0 : Vec Ideal S256x7168 .fp8e4m3) (x1 : Vec Ideal S2x128 .f32) (x2 : Vec Ideal S256x18432 .fp8e5m2) (x3 : Vec Ideal S2x128 .f32) (x6 : Vec Ideal S32x7168 .bf16)
    (h : ∀ (r : Fin 32) (s : Fin 256), IsReal (xaRow x0 x1 x6 (ix2 r s) * sdRow x3 (ix2 0 s))) (y : S32x2048.Idx) :
    k0_pay19 (k0_pay15 (sdRow x3) (xaRow x0 x1 x6)) (View.ld x2 (Rect.unit ![0, 6144] ![256, 2048] inb_S256x18432_S256x2048_0_6144)) y =
      dbG x0 x1 x2 x3 x6 ((Rect.unit (s := S32x18432) ![0, 6144] ![32, 2048] inb_S32x18432_S32x2048_0_6144).emb y) := by
  idx_vars y
  have hl : 6144 + y1.val < 18432 := by omega
  rw [dbG_emb x0 x1 x2 x3 x6 6144 inb_S32x18432_S32x2048_0_6144 y0 y1 hl, dbPay3 _ _ _ h]
  unfold dbH
  refine Ideal.mul_congr rfl (Finset.sum_congr rfl fun s _ => Ideal.mul_congr rfl ?_)
  exact db_ld x2 6144 inb_S256x18432_S256x2048_0_6144 s y1 hl

/-- Store 4 into the block of `dB` writes its part of the function of the block. -/
theorem dbPiece4 (x0 : Vec Ideal S256x7168 .fp8e4m3) (x1 : Vec Ideal S2x128 .f32) (x2 : Vec Ideal S256x18432 .fp8e5m2) (x3 : Vec Ideal S2x128 .f32) (x6 : Vec Ideal S32x7168 .bf16)
    (h : ∀ (r : Fin 32) (s : Fin 256), IsReal (xaRow x0 x1 x6 (ix2 r s) * sdRow x3 (ix2 0 s))) (y : S32x2048.Idx) :
    k0_pay20 (k0_pay15 (sdRow x3) (xaRow x0 x1 x6)) (View.ld x2 (Rect.unit ![0, 8192] ![256, 2048] inb_S256x18432_S256x2048_0_8192)) y =
      dbG x0 x1 x2 x3 x6 ((Rect.unit (s := S32x18432) ![0, 8192] ![32, 2048] inb_S32x18432_S32x2048_0_8192).emb y) := by
  idx_vars y
  have hl : 8192 + y1.val < 18432 := by omega
  rw [dbG_emb x0 x1 x2 x3 x6 8192 inb_S32x18432_S32x2048_0_8192 y0 y1 hl, dbPay4 _ _ _ h]
  unfold dbH
  refine Ideal.mul_congr rfl (Finset.sum_congr rfl fun s _ => Ideal.mul_congr rfl ?_)
  exact db_ld x2 8192 inb_S256x18432_S256x2048_0_8192 s y1 hl

/-- Store 5 into the block of `dB` writes its part of the function of the block. -/
theorem dbPiece5 (x0 : Vec Ideal S256x7168 .fp8e4m3) (x1 : Vec Ideal S2x128 .f32) (x2 : Vec Ideal S256x18432 .fp8e5m2) (x3 : Vec Ideal S2x128 .f32) (x6 : Vec Ideal S32x7168 .bf16)
    (h : ∀ (r : Fin 32) (s : Fin 256), IsReal (xaRow x0 x1 x6 (ix2 r s) * sdRow x3 (ix2 0 s))) (y : S32x2048.Idx) :
    k0_pay23 (k0_pay21 (k0_pay15 (sdRow x3) (xaRow x0 x1 x6)) (View.ld x2 (Rect.unit ![0, 10240] ![256, 2048] inb_S256x18432_S256x2048_0_10240))) (k0_pay22 (k0_pay15 (sdRow x3) (xaRow x0 x1 x6)) (View.ld x2 (Rect.unit ![0, 10240] ![256, 2048] inb_S256x18432_S256x2048_0_10240))) y =
      dbG x0 x1 x2 x3 x6 ((Rect.unit (s := S32x18432) ![0, 10240] ![32, 2048] inb_S32x18432_S32x2048_0_10240).emb y) := by
  idx_vars y
  have hl : 10240 + y1.val < 18432 := by omega
  rw [dbG_emb x0 x1 x2 x3 x6 10240 inb_S32x18432_S32x2048_0_10240 y0 y1 hl, dbPay5 _ _ _ h]
  unfold dbH
  refine Ideal.mul_congr rfl (Finset.sum_congr rfl fun s _ => Ideal.mul_congr rfl ?_)
  exact db_ld x2 10240 inb_S256x18432_S256x2048_0_10240 s y1 hl

/-- Store 6 into the block of `dB` writes its part of the function of the block. -/
theorem dbPiece6 (x0 : Vec Ideal S256x7168 .fp8e4m3) (x1 : Vec Ideal S2x128 .f32) (x2 : Vec Ideal S256x18432 .fp8e5m2) (x3 : Vec Ideal S2x128 .f32) (x6 : Vec Ideal S32x7168 .bf16)
    (h : ∀ (r : Fin 32) (s : Fin 256), IsReal (xaRow x0 x1 x6 (ix2 r s) * sdRow x3 (ix2 0 s))) (y : S32x2048.Idx) :
    k0_pay24 (k0_pay15 (sdRow x3) (xaRow x0 x1 x6)) (View.ld x2 (Rect.unit ![0, 12288] ![256, 2048] inb_S256x18432_S256x2048_0_12288)) y =
      dbG x0 x1 x2 x3 x6 ((Rect.unit (s := S32x18432) ![0, 12288] ![32, 2048] inb_S32x18432_S32x2048_0_12288).emb y) := by
  idx_vars y
  have hl : 12288 + y1.val < 18432 := by omega
  rw [dbG_emb x0 x1 x2 x3 x6 12288 inb_S32x18432_S32x2048_0_12288 y0 y1 hl, dbPay6 _ _ _ h]
  unfold dbH
  refine Ideal.mul_congr rfl (Finset.sum_congr rfl fun s _ => Ideal.mul_congr rfl ?_)
  exact db_ld x2 12288 inb_S256x18432_S256x2048_0_12288 s y1 hl

/-- Store 7 into the block of `dB` writes its part of the function of the block. -/
theorem dbPiece7 (x0 : Vec Ideal S256x7168 .fp8e4m3) (x1 : Vec Ideal S2x128 .f32) (x2 : Vec Ideal S256x18432 .fp8e5m2) (x3 : Vec Ideal S2x128 .f32) (x6 : Vec Ideal S32x7168 .bf16)
    (h : ∀ (r : Fin 32) (s : Fin 256), IsReal (xaRow x0 x1 x6 (ix2 r s) * sdRow x3 (ix2 0 s))) (y : S32x2048.Idx) :
    k0_pay25 (k0_pay15 (sdRow x3) (xaRow x0 x1 x6)) (View.ld x2 (Rect.unit ![0, 14336] ![256, 2048] inb_S256x18432_S256x2048_0_14336)) y =
      dbG x0 x1 x2 x3 x6 ((Rect.unit (s := S32x18432) ![0, 14336] ![32, 2048] inb_S32x18432_S32x2048_0_14336).emb y) := by
  idx_vars y
  have hl : 14336 + y1.val < 18432 := by omega
  rw [dbG_emb x0 x1 x2 x3 x6 14336 inb_S32x18432_S32x2048_0_14336 y0 y1 hl, dbPay7 _ _ _ h]
  unfold dbH
  refine Ideal.mul_congr rfl (Finset.sum_congr rfl fun s _ => Ideal.mul_congr rfl ?_)
  exact db_ld x2 14336 inb_S256x18432_S256x2048_0_14336 s y1 hl

/-- Store 8 into the block of `dB` writes its part of the function of the block. -/
theorem dbPiece8 (x0 : Vec Ideal S256x7168 .fp8e4m3) (x1 : Vec Ideal S2x128 .f32) (x2 : Vec Ideal S256x18432 .fp8e5m2) (x3 : Vec Ideal S2x128 .f32) (x6 : Vec Ideal S32x7168 .bf16)
    (h : ∀ (r : Fin 32) (s : Fin 256), IsReal (xaRow x0 x1 x6 (ix2 r s) * sdRow x3 (ix2 0 s))) (y : S32x2048.Idx) :
    k0_pay28 (k0_pay26 (k0_pay15 (sdRow x3) (xaRow x0 x1 x6)) (View.ld x2 (Rect.unit ![0, 16384] ![256, 2048] inb_S256x18432_S256x2048_0_16384))) k0_pay27 y =
      dbG x0 x1 x2 x3 x6 ((Rect.unit (s := S32x18432) ![0, 16384] ![32, 2048] inb_S32x18432_S32x2048_0_16384).emb y) := by
  idx_vars y
  have hl : 16384 + y1.val < 18432 := by omega
  rw [dbG_emb x0 x1 x2 x3 x6 16384 inb_S32x18432_S32x2048_0_16384 y0 y1 hl, dbPay8 _ _ _ h]
  unfold dbH
  refine Ideal.mul_congr rfl (Finset.sum_congr rfl fun s _ => Ideal.mul_congr rfl ?_)
  exact db_ld x2 16384 inb_S256x18432_S256x2048_0_16384 s y1 hl

/-- Every store into the block of `dB` writes its part of one function. -/
theorem dbL_pieces (x0 : Vec Ideal S256x7168 .fp8e4m3) (x1 : Vec Ideal S2x128 .f32) (x2 : Vec Ideal S256x18432 .fp8e5m2) (x3 : Vec Ideal S2x128 .f32) (x6 : Vec Ideal S32x7168 .bf16)
    (h : ∀ (r : Fin 32) (s : Fin 256), IsReal (xaRow x0 x1 x6 (ix2 r s) * sdRow x3 (ix2 0 s))) :
    ∀ p ∈ dbL x0 x1 x2 x3 x6, ∀ x : p.1.shape.Idx, p.2 x = dbG x0 x1 x2 x3 x6 (p.1.emb x) := by
  unfold dbL
  exact List.forall_mem_cons.2 ⟨dbPiece8 x0 x1 x2 x3 x6 h, List.forall_mem_cons.2 ⟨dbPiece7 x0 x1 x2 x3 x6 h, List.forall_mem_cons.2 ⟨dbPiece6 x0 x1 x2 x3 x6 h, List.forall_mem_cons.2 ⟨dbPiece5 x0 x1 x2 x3 x6 h, List.forall_mem_cons.2 ⟨dbPiece4 x0 x1 x2 x3 x6 h, List.forall_mem_cons.2 ⟨dbPiece3 x0 x1 x2 x3 x6 h, List.forall_mem_cons.2 ⟨dbPiece2 x0 x1 x2 x3 x6 h, List.forall_mem_cons.2 ⟨dbPiece1 x0 x1 x2 x3 x6 h, List.forall_mem_cons.2 ⟨dbPiece0 x0 x1 x2 x3 x6 h, fun _ hm => absurd hm List.not_mem_nil⟩⟩⟩⟩⟩⟩⟩⟩⟩

/-- Every entry of the block of `dB` lies in some store. -/
theorem dbL_cover (x0 : Vec Ideal S256x7168 .fp8e4m3) (x1 : Vec Ideal S2x128 .f32) (x2 : Vec Ideal S256x18432 .fp8e5m2) (x3 : Vec Ideal S2x128 .f32) (x6 : Vec Ideal S32x7168 .bf16) (y : S32x18432.Idx) : ∃ pc ∈ dbL x0 x1 x2 x3 x6, y ∈ pc.1.set :=
  View.cover_of_tiledL (dbL x0 x1 x2 x3 x6) S32x2048.size (by sl_kernel_rfl) y

/-- The block of `dB`, entry by entry. -/
theorem dbOut_apply (x0 : Vec Ideal S256x7168 .fp8e4m3) (x1 : Vec Ideal S2x128 .f32) (x2 : Vec Ideal S256x18432 .fp8e5m2) (x3 : Vec Ideal S2x128 .f32) (x6 : Vec Ideal S32x7168 .bf16)
    (h : ∀ (r : Fin 32) (s : Fin 256), IsReal (xaRow x0 x1 x6 (ix2 r s) * sdRow x3 (ix2 0 s))) (r : Fin 32) (o : Fin 18432) :
    dbOut x0 x1 x2 x3 x6 (ix2 r o) = 2 * ∑ s, xaRow x0 x1 x6 (ix2 r s) * sdRow x3 (ix2 0 s) * x2 (ix2 s o) :=
  (View.canon_apply_of_pieces (dbG x0 x1 x2 x3 x6) (dbL x0 x1 x2 x3 x6) (dbL_pieces x0 x1 x2 x3 x6 h) (ix2 r o) (dbL_cover x0 x1 x2 x3 x6 (ix2 r o))).trans
    (dbG_ix2 x0 x1 x2 x3 x6 r o)

end Cert.KernelIdeal.Hand
end
-- ==== Proof.KArrays.lean ====
/- What the kernel's windows hold at a grid point, in terms of the arguments. -/
module

public import proofs.«01_k».proof.Proof.KFrame
public import proofs.«01_k».proof.Proof.KValue
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Cert.Lora

variable (m : (ℓ : Loc nD τ sig) → Buf (Elt Ideal) ℓ)

/-- The windows' block indices at every grid point. -/
theorem idx : ∀ t : Fin cfg0.N, win0_0.index t = ![0, 0] ∧ win0_1.index t = ![0, 0] ∧ win0_2.index t = ![0, 0] ∧
    win0_3.index t = ![0, 0] ∧ win0_4.index t = ![t.val, 0] ∧ win0_5.index t = ![0, t.val] ∧ win0_6.index t = ![0, 0] ∧
    win0_7.index t = ![0, t.val] ∧ win0_8.index t = ![0, 0] ∧ win0_9.index t = ![0, t.val] :=
  (by decide +kernel : ∀ t : Fin grid0.N, _)

/-- What the host leaves in the first operand: the values of the codes of `x`, token by token. -/
theorem V_main_v3 (c : Dev nD) : V m c main_v3 = shapeCast S256x7168 (bitcastToFloat (F := Ideal) .fp8e4m3 (m ((c : Thread nD τ).loc main_arg0)) : FVec Ideal S2x128x7168 .fp8e4m3) shapeCasts_S2x128x7168_S256x7168 := by
  unfold V V0 hostOps0
  simp only [List.flatten_cons, List.flatten_nil, List.append_nil]
  after_results
  rfl

/-- What the host leaves in the third operand: the values of the codes of `dy`, token by token. -/
theorem V_main_v4 (c : Dev nD) : V m c main_v4 = shapeCast S256x18432 (bitcastToFloat (F := Ideal) .fp8e5m2 (m ((c : Thread nD τ).loc main_arg2)) : FVec Ideal S2x128x18432 .fp8e5m2) shapeCasts_S2x128x18432_S256x18432 := by
  unfold V V0 hostOps0
  simp only [List.flatten_cons, List.flatten_nil, List.append_nil]
  after_results
  rfl

/-- What the host leaves in the sixth operand: the scales of `w0` as a row. -/
theorem V_main_v5 (c : Dev nD) : V m c main_v5 = shapeCast S1x7168 (m ((c : Thread nD τ).loc main_arg5) : FVec Ideal S7168 .f32) shapeCasts_S7168_S1x7168 := by
  unfold V V0 hostOps0
  simp only [List.flatten_cons, List.flatten_nil, List.append_nil]
  after_results
  rfl

/-- What the host leaves in the seventh operand: `lora_a`, transposed. -/
theorem V_main_v2 (c : Dev nD) : V m c main_v2 = transpose S32x7168 [1, 0] (m ((c : Thread nD τ).loc main_arg6) : FVec Ideal S7168x32 .bf16) transposes_S7168x32_S32x7168_1_0 := by
  unfold V V0 hostOps0
  simp only [List.flatten_cons, List.flatten_nil, List.append_nil]
  after_results

/-- A vector read as a row. -/
theorem row_apply {n : ℕ} (x : (⟨1, ![n]⟩ : Shape).Idx → EReal) (h : (⟨1, ![n]⟩ : Shape).ShapeCasts (⟨2, ![1, n]⟩ : Shape))
    (i : Fin n) : shapeCast (⟨2, ![1, n]⟩ : Shape) x h (ix2 0 i) = fV x i := by
  refine congrArg x (Shape.reshapeEquiv_eq_of_rowMajor h ?_)
  rw [Shape.rowMajor_val_two, Shape.rowMajor_val_one]
  show i.val = 0 * n + i.val
  omega

/-- The host's first operand, entry by entry. -/
theorem v3_apply (c : Dev nD) (s : Fin 256) (i : Fin 7168) :
    V m c main_v3 (ix2 s i) = fX (m ((c : Thread nD τ).loc main_arg0)) s i := by
  rw [V_main_v3]
  pointwise
  rfl

/-- The host's third operand, entry by entry. -/
theorem v4_apply (c : Dev nD) (s : Fin 256) (i : Fin 18432) :
    V m c main_v4 (ix2 s i) = fD (m ((c : Thread nD τ).loc main_arg2)) s i := by
  rw [V_main_v4]
  pointwise
  rfl

/-- The host's sixth operand, entry by entry. -/
theorem v5_apply (c : Dev nD) (i : Fin 7168) :
    V m c main_v5 (ix2 0 i) = fV (n := 7168) (m ((c : Thread nD τ).loc main_arg5)) i := by
  rw [V_main_v5]
  exact row_apply _ _ i

/-- The host's seventh operand, entry by entry. -/
theorem v2_apply (c : Dev nD) (r : Fin 32) (i : Fin 7168) :
    V m c main_v2 (ix2 r i) = fM (n := 7168) (k := 32) (m ((c : Thread nD τ).loc main_arg6)) i r := by
  rw [V_main_v2]
  pointwise
  rfl

/-- Window 0 holds `x`. -/
theorem iblk0 (c : Dev nD) (t : Fin cfg0.N) (s : Fin 256) (i : Fin 7168) :
    iblk m c 0 t (ix2 s i) = fX (m ((c : Thread nD τ).loc main_arg0)) s i := by
  rw [← v3_apply]
  blk_ext [iblk, idx t]

/-- Window 1 holds the scales of `x`. -/
theorem iblk1 (c : Dev nD) (t : Fin cfg0.N) (p : Fin 2) (q : Fin 128) :
    iblk m c 1 t (ix2 p q) = m ((c : Thread nD τ).loc main_arg1) (ix2 p q) := by
  blk_ext [iblk, V, idx t]

/-- Window 2 holds `dy`. -/
theorem iblk2 (c : Dev nD) (t : Fin cfg0.N) (s : Fin 256) (i : Fin 18432) :
    iblk m c 2 t (ix2 s i) = fD (m ((c : Thread nD τ).loc main_arg2)) s i := by
  rw [← v4_apply]
  blk_ext [iblk, idx t]

/-- Window 3 holds the scales of `dy`. -/
theorem iblk3 (c : Dev nD) (t : Fin cfg0.N) (p : Fin 2) (q : Fin 128) :
    iblk m c 3 t (ix2 p q) = m ((c : Thread nD τ).loc main_arg3) (ix2 p q) := by
  blk_ext [iblk, V, idx t]

/-- Window 4 holds 512 rows of `w0`, those of the grid point. -/
theorem iblk4 (c : Dev nD) (t : Fin cfg0.N) (i : Fin 512) (o : Fin 18432) (h : t.val * 512 + i.val < 7168) :
    iblk m c 4 t (ix2 i o) = fM (n := 7168) (k := 18432) (m ((c : Thread nD τ).loc main_arg4)) ⟨t.val * 512 + i.val, h⟩ o := by
  unfold fM
  blk_ext [iblk, V, idx t]

/-- Window 5 holds the scales of those rows. -/
theorem iblk5 (c : Dev nD) (t : Fin cfg0.N) (i : Fin 512) (h : t.val * 512 + i.val < 7168) :
    iblk m c 5 t (ix2 0 i) = fV (n := 7168) (m ((c : Thread nD τ).loc main_arg5)) ⟨t.val * 512 + i.val, h⟩ := by
  rw [← v5_apply]
  blk_ext [iblk, idx t]

/-- Window 6 holds `lora_a`, transposed. -/
theorem iblk6 (c : Dev nD) (t : Fin cfg0.N) (r : Fin 32) (i : Fin 7168) :
    iblk m c 6 t (ix2 r i) = fM (n := 7168) (k := 32) (m ((c : Thread nD τ).loc main_arg6)) i r := by
  rw [← v2_apply]
  blk_ext [iblk, idx t]

/-- Window 7 holds 512 columns of `lora_a` transposed, those of the grid point. -/
theorem iblk7 (c : Dev nD) (t : Fin cfg0.N) (r : Fin 32) (i : Fin 512) (h : t.val * 512 + i.val < 7168) :
    iblk m c 7 t (ix2 r i) = fM (n := 7168) (k := 32) (m ((c : Thread nD τ).loc main_arg6)) ⟨t.val * 512 + i.val, h⟩ r := by
  rw [← v2_apply]
  blk_ext [iblk, idx t]

/-- Window 8 holds `lora_b`. -/
theorem iblk8 (c : Dev nD) (t : Fin cfg0.N) (r : Fin 32) (o : Fin 18432) :
    iblk m c 8 t (ix2 r o) = fM (n := 32) (k := 18432) (m ((c : Thread nD τ).loc main_arg7)) r o := by
  unfold fM
  blk_ext [iblk, V, idx t]

end Cert.KernelIdeal.Hand
end
-- ==== Proof.KFinal.lean ====
/- What the kernel's run leaves in its output arrays, as functions of the arguments. -/
module

public import proofs.«01_k».proof.Proof.KArrays

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Cert.Lora

variable (m : (ℓ : Loc nD τ sig) → Buf (Elt Ideal) ℓ)

/-- The activations the codes `arg0` stand for, by token and feature. -/
def aX (c : Dev nD) : Fin 256 → Fin 7168 → EReal := fX (m ((c : Thread nD τ).loc main_arg0))
/-- The activations' scale of each token. -/
def aSx (c : Dev nD) : Fin 256 → EReal := fS (m ((c : Thread nD τ).loc main_arg1))
/-- The output gradient the codes `arg2` stand for. -/
def aD (c : Dev nD) : Fin 256 → Fin 18432 → EReal := fD (m ((c : Thread nD τ).loc main_arg2))
/-- The gradient's scale of each token. -/
def aSd (c : Dev nD) : Fin 256 → EReal := fS (m ((c : Thread nD τ).loc main_arg3))
/-- The frozen weight. -/
def aW (c : Dev nD) : Fin 7168 → Fin 18432 → EReal := fM (n := 7168) (k := 18432) (m ((c : Thread nD τ).loc main_arg4))
/-- Its scale by row. -/
def aWs (c : Dev nD) : Fin 7168 → EReal := fV (n := 7168) (m ((c : Thread nD τ).loc main_arg5))
/-- The adapter `A`. -/
def aA (c : Dev nD) : Fin 7168 → Fin 32 → EReal := fM (n := 7168) (k := 32) (m ((c : Thread nD τ).loc main_arg6))
/-- The adapter `B`. -/
def aB (c : Dev nD) : Fin 32 → Fin 18432 → EReal := fM (n := 32) (k := 18432) (m ((c : Thread nD τ).loc main_arg7))
/-- The gradient through `B`. -/
def aT (c : Dev nD) : Fin 256 → Fin 32 → EReal := T (aD m c) (aSd m c) (aB m c)
/-- The activations through `A`. -/
def aXA (c : Dev nD) : Fin 256 → Fin 32 → EReal := XA (aX m c) (aSx m c) (aA m c)

/-- Every entry of the activations, the output gradient, their scales and the two adapters is a real number. -/
structure AllReal (c : Dev nD) : Prop where
  x : ∀ s i, IsReal (aX m c s i)
  sx : ∀ s, IsReal (aSx m c s)
  d : ∀ s o, IsReal (aD m c s o)
  sd : ∀ s, IsReal (aSd m c s)
  a : ∀ i r, IsReal (aA m c i r)
  b : ∀ r o, IsReal (aB m c r o)

variable {m}

theorem AllReal.t {c : Dev nD} (h : AllReal m c) (s : Fin 256) (r : Fin 32) : IsReal (aT m c s r) :=
  (IsReal.sum fun o => (h.d s o).mul (h.b r o)).mul (h.sd s)

theorem AllReal.xa {c : Dev nD} (h : AllReal m c) (s : Fin 256) (r : Fin 32) : IsReal (aXA m c s r) :=
  (IsReal.sum fun i => (h.x s i).mul (h.a i r)).mul (h.sx s)

variable (m)

/-- The row of activation scales at a token. -/
theorem sx_eq (c : Dev nD) (s : Fin 256) : sxRow (F := Ideal) (iblk m c 1 t0_0) (ix2 0 s) = aSx m c s :=
  (sxRow_apply _ s).trans (iblk1 m c t0_0 _ _)

/-- The row of gradient scales at a token. -/
theorem sd_eq (c : Dev nD) (s : Fin 256) : sdRow (F := Ideal) (iblk m c 3 t0_0) (ix2 0 s) = aSd m c s :=
  (sdRow_apply _ s).trans (iblk3 m c t0_0 _ _)

/-- The gradient through `B`, as the kernel holds it: transposed. -/
theorem t_eq (c : Dev nD) (r : Fin 32) (s : Fin 256) :
    tRow (F := Ideal) (iblk m c 2 t0_0) (iblk m c 3 t0_0) (iblk m c 8 t0_0) (ix2 r s) = aT m c s r := by
  refine (tRow_apply _ _ _ r s).trans (Ideal.mul_congr (Finset.sum_congr rfl fun o _ => ?_) (sd_eq m c s))
  rw [iblk2, iblk8]
  exact mul_comm _ _

/-- The activations through `A`, as the kernel holds them: transposed. -/
theorem xa_eq (c : Dev nD) (r : Fin 32) (s : Fin 256) :
    xaRow (F := Ideal) (iblk m c 0 t0_0) (iblk m c 1 t0_0) (iblk m c 6 t0_0) (ix2 r s) = aXA m c s r := by
  refine (xaRow_apply _ _ _ r s).trans (Ideal.mul_congr (Finset.sum_congr rfl fun o _ => ?_) (sx_eq m c s))
  rw [iblk0, iblk6]
  exact mul_comm _ _

/-- Output 13 after the run: the activations through `A`. -/
theorem final13 (c : Dev nD) : (dats m 0 c).arrAt 13 cfg0.N = fun y : S256x32.Idx => aXA m c (y 0) (y 1) := by
  refine (dats m 0 c).arrAt_eq_of_after_last 13 t0_13 (by decide +kernel) _ fun j => ?_
  blk_simp
  rw [after0_13]
  idx_vars j
  exact (xaOut_apply _ _ _ _ _).trans (xa_eq m c _ _)

/-- Output 12 after the run: the gradient through `B`. -/
theorem final12 (c : Dev nD) : (dats m 0 c).arrAt 12 cfg0.N = fun y : S256x32.Idx => aT m c (y 0) (y 1) := by
  refine (dats m 0 c).arrAt_eq_of_after_last 12 t0_13 (by decide +kernel) _ fun j => ?_
  blk_simp
  rw [after0_12]
  idx_vars j
  exact (tOut_apply _ _ _ _ _).trans (t_eq m c _ _)

/-- Output 11 after the run: the gradient of `B`. -/
theorem final11 (c : Dev nD) (h : AllReal m c) :
    (dats m 0 c).arrAt 11 cfg0.N = fun y : S32x18432.Idx => DB (aD m c) (aSd m c) (aXA m c) (y 0) (y 1) := by
  refine (dats m 0 c).arrAt_eq_of_after_last 11 t0_13 (by decide +kernel) _ fun j => ?_
  blk_simp
  rw [after0_11]
  idx_vars j
  refine (dbOut_apply _ _ _ _ _ (fun r s => ?_) _ _).trans ?_
  · rw [xa_eq, sd_eq]
    exact (h.xa s r).mul (h.sd s)
  · refine Ideal.mul_congr rfl (Finset.sum_congr rfl fun s _ => ?_)
    rw [xa_eq, sd_eq, iblk2]
    rfl

/-- Output 10 after the run: the gradient of `A`, transposed. -/
theorem final10 (c : Dev nD) (h : AllReal m c) :
    (dats m 0 c).arrAt 10 cfg0.N = fun y : S32x7168.Idx => DA (aX m c) (aSx m c) (aT m c) (y 1) (y 0) := by
  refine (dats m 0 c).arrAt_eq_of_after_last 10 t0_13 (by decide +kernel) _ fun j => ?_
  blk_simp
  rw [after0_10]
  idx_vars j
  refine (daOut_apply _ _ _ _ _ (fun r s => ?_) _ _).trans ?_
  · rw [t_eq, sx_eq]
    exact (h.t s r).mul (h.sx s)
  · refine Ideal.mul_congr rfl (Finset.sum_congr rfl fun s _ => ?_)
    rw [t_eq, sx_eq, iblk0, mul_comm, mul_comm (aT m c s _)]
    rfl

/-- Output 9 after the run: the gradient of the activations, a block of 512 columns by each point. -/
theorem final9 (c : Dev nD) (h : AllReal m c) :
    (dats m 0 c).arrAt 9 cfg0.N =
      fun y : S256x7168.Idx => DX (aD m c) (aSd m c) (aW m c) (aWs m c) (aA m c) (aT m c) (y 0) (y 1) := by
  refine (dats m 0 c).arrAt_eq_of_covers 9 _ (by decide +kernel) fun t hf y => ?_
  blk_simp
  rw [after0_9]
  idx_vars y
  have hi : t.val * 512 + y1.val < 7168 := by
    have h₁ : t.val < 14 := lt_of_lt_of_eq t.isLt N_0
    have h₂ := y1.isLt
    omega
  refine (dxBlk_apply _ _ _ _ _ _ (aT m c) (aSd m c) (fun s q => ?_) (fun s => ?_) _ _).trans ?_
  · refine (t3Scr_apply _ _ _ (fun r s => ?_) s q).trans ?_
    · rw [t_eq]
      exact h.t s r
    · split
      · exact t_eq m c _ _
      · rfl
  · exact (dcScr_apply _ s 0).trans (sd_eq m c s)
  · have e : ((View.whole main_v6_0).slice (win0_9.rect t)).emb (ix2 y0 y1) = ix2 (n0 := 256) (n1 := 7168) y0 ⟨t.val * 512 + y1.val, hi⟩ := by
      blk_ext [idx t]
    rw [e]
    refine Ideal.add_congr (Ideal.mul_congr (Finset.sum_congr rfl fun o _ => ?_) (Ideal.mul_congr rfl ?_))
      (Ideal.mul_congr rfl (Finset.sum_congr rfl fun r _ => Ideal.mul_congr rfl ?_))
    · exact Ideal.mul_congr (iblk2 m c t _ _) (iblk4 m c t _ _ hi)
    · exact iblk5 m c t _ hi
    · exact iblk7 m c t _ _ hi

end Cert.KernelIdeal.Hand

end
-- ==== Proof.KEnd.lean ====
/- The kernel's run: the five results it ends with, as functions of the arguments. -/
module

public import proofs.«01_k».proof.Proof.KFinal

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Cert.Lora

variable (m : (ℓ : Loc nD τ sig) → Buf (Elt Ideal) ℓ)

/-- After the region, window `w`'s array holds what the run left there. -/
theorem left (c : Dev nD) (w : Fin cfg0.W) :
    Pipeline.withArrays spec0 c (V0 m c) (fun w => (dats m 0 c).arrAt w cfg0.N) (Proc.devRef .tc (Pipeline.arrRef spec0 w)) =
      (dats m 0 c).arrAt w cfg0.N :=
  (dats m 0 c).withArrays_arrAt sharedIn0 (V0 m c) (A_eq m c) w

/-- The first result: the reshaped array of window 9. -/
theorem W_main_v7 (c : Dev nD) : Pipeline.afterTail₀ cfgs (dats m) 0 (V0 m) [hostOps1] c main_v7 =
    shapeCast S2x128x7168 ((dats m 0 c).arrAt 9 cfg0.N : FVec Ideal S256x7168 .bf16) shapeCasts_S256x7168_S2x128x7168 := by
  unfold Pipeline.afterTail₀ hostOps1
  simp only [List.flatten_cons, List.flatten_nil, List.append_nil]
  after_results
  exact congrArg (fun x : FVec Ideal S256x7168 .bf16 => shapeCast S2x128x7168 x shapeCasts_S256x7168_S2x128x7168) (left m c 9)

/-- The second result: the transposed array of window 10. -/
theorem W_main_v8 (c : Dev nD) : Pipeline.afterTail₀ cfgs (dats m) 0 (V0 m) [hostOps1] c main_v8 =
    transpose S7168x32 [1, 0] ((dats m 0 c).arrAt 10 cfg0.N : FVec Ideal S32x7168 .f32) transposes_S32x7168_S7168x32_1_0 := by
  unfold Pipeline.afterTail₀ hostOps1
  simp only [List.flatten_cons, List.flatten_nil, List.append_nil]
  after_results
  exact congrArg (fun x : FVec Ideal S32x7168 .f32 => transpose S7168x32 [1, 0] x transposes_S32x7168_S7168x32_1_0) (left m c 10)

/-- The fourth result: the reshaped array of window 12. -/
theorem W_main_v9 (c : Dev nD) : Pipeline.afterTail₀ cfgs (dats m) 0 (V0 m) [hostOps1] c main_v9 =
    shapeCast S2x128x32 ((dats m 0 c).arrAt 12 cfg0.N : FVec Ideal S256x32 .f32) shapeCasts_S256x32_S2x128x32 := by
  unfold Pipeline.afterTail₀ hostOps1
  simp only [List.flatten_cons, List.flatten_nil, List.append_nil]
  after_results
  exact congrArg (fun x : FVec Ideal S256x32 .f32 => shapeCast S2x128x32 x shapeCasts_S256x32_S2x128x32) (left m c 12)

/-- The fifth result: the reshaped array of window 13. -/
theorem W_main_v10 (c : Dev nD) : Pipeline.afterTail₀ cfgs (dats m) 0 (V0 m) [hostOps1] c main_v10 =
    shapeCast S2x128x32 ((dats m 0 c).arrAt 13 cfg0.N : FVec Ideal S256x32 .f32) shapeCasts_S256x32_S2x128x32 := by
  unfold Pipeline.afterTail₀ hostOps1
  simp only [List.flatten_cons, List.flatten_nil, List.append_nil]
  after_results
  exact congrArg (fun x : FVec Ideal S256x32 .f32 => shapeCast S2x128x32 x shapeCasts_S256x32_S2x128x32) (left m c 13)

/-- Where the inputs are real, every run ends with the five results at their formulas and the arguments as they were. -/
theorem results (ρ : Dev nD → PrngReg) (h : ∀ c, AllReal m c) :
    θ_run defs (onTc (τ := τ) (main (F := Ideal))) ⟨m, fun _ => 0, ρ⟩ (fun r => ∀ c : Dev nD,
      r.2.mem ((c.tc : Thread nD τ).loc main_v7) = shapeCast S2x128x7168
        (fun y : S256x7168.Idx => DX (aD m c) (aSd m c) (aW m c) (aWs m c) (aA m c) (aT m c) (y 0) (y 1)) shapeCasts_S256x7168_S2x128x7168
      ∧ r.2.mem ((c.tc : Thread nD τ).loc main_v8) = (fun y : S7168x32.Idx => DA (aX m c) (aSx m c) (aT m c) (y 0) (y 1))
      ∧ r.2.mem ((c.tc : Thread nD τ).loc main_v6_2) = (fun y : S32x18432.Idx => DB (aD m c) (aSd m c) (aXA m c) (y 0) (y 1))
      ∧ r.2.mem ((c.tc : Thread nD τ).loc main_v9) = shapeCast S2x128x32 (fun y : S256x32.Idx => aT m c (y 0) (y 1)) shapeCasts_S256x32_S2x128x32
      ∧ r.2.mem ((c.tc : Thread nD τ).loc main_v10) = shapeCast S2x128x32 (fun y : S256x32.Idx => aXA m c (y 0) (y 1)) shapeCasts_S256x32_S2x128x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r hr c => by
    obtain ⟨hp, hu⟩ := hr
    refine ⟨?_, ?_, ?_, ?_, ?_, hu c⟩
    · refine ((hp c).2 main_v7 (by decide)).trans ((W_main_v7 m c).trans ?_)
      rw [final9 m c (h c)]
    · refine ((hp c).2 main_v8 (by decide)).trans ((W_main_v8 m c).trans ?_)
      rw [final10 m c (h c)]
      funext y
      idx_vars y
      pointwise
    · exact ((hp c).1 11).trans (final11 m c (h c))
    · refine ((hp c).2 main_v9 (by decide)).trans ((W_main_v9 m c).trans ?_)
      rw [final12 m c]
    · refine ((hp c).2 main_v10 (by decide)).trans ((W_main_v10 m c).trans ?_)
      rw [final13 m c]) (θ_run_and (run_main m ρ) (unchanged m ρ))

end Cert.KernelIdeal.Hand
end
-- ==== Proof.RValue.lean ====
/- What the reference's run leaves in its output arrays, as functions of the arguments. -/
module

public import proofs.«01_k».proof.Proof.Gen.ReferenceIdeal.Frame
public import proofs.«01_k».proof.Proof.KArrays

@[expose] public section

set_option maxRecDepth 16384

noncomputable section

namespace Cert.ReferenceIdeal.Hand

open Cert.ReferenceIdeal.Gen
open Idealize.ShloMosaic Idealize.ShloMosaic.TcCoe Idealize.SL.Sem
open Idealize.ShloMosaic.Pipeline (Dat)
open Cert.Lora

/-- The `xa` the other results read is the one of its own output. -/
theorem pay12_eq (x0 : Vec Ideal S256x7168 .fp8e4m3) (x1 : Vec Ideal S256x1 .f32) (x2 : Vec Ideal S256x18432 .fp8e5m2)
    (x3 : Vec Ideal S256x1 .f32) (x4 : Vec Ideal S7168x18432 .fp8e4m3) (x5 : Vec Ideal S1x7168 .f32)
    (x6 : Vec Ideal S7168x32 .bf16) (x7 : Vec Ideal S32x18432 .bf16) :
    k0_pay12 x0 x1 x2 x3 x4 x5 x6 x7 = k0_pay8 x0 x1 x6 := by
  unfold k0_pay12
  frame_out

/-- The reference's `t` from its blocks. -/
theorem pay7_apply (x2 : Vec Ideal S256x18432 .fp8e5m2) (x3 : Vec Ideal S256x1 .f32) (x7 : Vec Ideal S32x18432 .bf16)
    (s : Fin 256) (r : Fin 32) :
    k0_pay7 x2 x3 x7 (ix2 s r) = (∑ o, x2 (ix2 s o) * x7 (ix2 r o)) * x3 (ix2 s 0) := by
  unfold k0_pay7 k0_pay5 k0_pay6
  rw [shapeCast_id, shapeCast_id]
  pointwise

/-- The reference's `xa` from its blocks. -/
theorem pay8_apply (x0 : Vec Ideal S256x7168 .fp8e4m3) (x1 : Vec Ideal S256x1 .f32) (x6 : Vec Ideal S7168x32 .bf16)
    (s : Fin 256) (r : Fin 32) :
    k0_pay8 x0 x1 x6 (ix2 s r) = (∑ i, x0 (ix2 s i) * x6 (ix2 i r)) * x1 (ix2 s 0) := by
  unfold k0_pay8 k0_pay3 k0_pay4
  rw [shapeCast_id, shapeCast_id]
  pointwise

/-- The reference's `dx` from its blocks. -/
theorem pay9_apply (x2 : Vec Ideal S256x18432 .fp8e5m2) (x3 : Vec Ideal S256x1 .f32) (x4 : Vec Ideal S7168x18432 .fp8e4m3)
    (x5 : Vec Ideal S1x7168 .f32) (x6 : Vec Ideal S7168x32 .bf16) (x7 : Vec Ideal S32x18432 .bf16) (s : Fin 256) (i : Fin 7168) :
    k0_pay9 x2 x3 x4 x5 x6 x7 (ix2 s i) = (∑ o, x2 (ix2 s o) * x4 (ix2 i o)) * (x3 (ix2 s 0) * x5 (ix2 0 i)) +
      2 * ∑ r, k0_pay7 x2 x3 x7 (ix2 s r) * x6 (ix2 i r) := by
  unfold k0_pay9 k0_pay5 k0_pay6
  rw [shapeCast_id, shapeCast_id, shapeCast_id]
  generalize k0_pay7 (F := Ideal) _ _ _ = w
  pointwise
  rw [ofBits_two]

/-- The reference's gradient of `lora_a` from its blocks. -/
theorem pay1_apply (x0 : Vec Ideal S256x7168 .fp8e4m3) (x1 : Vec Ideal S256x1 .f32) (x2 : Vec Ideal S256x18432 .fp8e5m2)
    (x3 : Vec Ideal S256x1 .f32) (x7 : Vec Ideal S32x18432 .bf16) (i : Fin 7168) (r : Fin 32) :
    k0_pay1 (k0_pay10 x0) (k0_pay11 x1 x2 x3 x7) (ix2 i r) =
      2 * ∑ s, x0 (ix2 s i) * (x1 (ix2 s 0) * k0_pay7 x2 x3 x7 (ix2 s r)) := by
  unfold k0_pay1 k0_pay10 k0_pay11 k0_pay3 k0_pay4
  rw [shapeCast_id, shapeCast_id]
  generalize k0_pay7 (F := Ideal) _ _ _ = w
  pointwise
  rw [ofBits_two]

/-- The reference's gradient of `lora_b` from its blocks. -/
theorem pay2_apply (x2 : Vec Ideal S256x18432 .fp8e5m2) (x3 : Vec Ideal S256x1 .f32) (w : FVec Ideal S256x32 .f32)
    (r : Fin 32) (o : Fin 18432) :
    k0_pay2 (k0_pay5 x2) (k0_pay6 x3) w (ix2 r o) = 2 * ∑ s, w (ix2 s r) * x3 (ix2 s 0) * x2 (ix2 s o) := by
  unfold k0_pay2 k0_pay5 k0_pay6
  rw [shapeCast_id, shapeCast_id]
  pointwise
  rw [ofBits_two]

variable (m : (ℓ : Loc nD τ sig) → Buf (Elt Ideal) ℓ)

/-- The windows' block indices at the one grid point. -/
theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![0, 0] :=
  (by decide +kernel : ∀ t : Fin grid0.N, _)

/-- What the host leaves in the first operand: the values of the codes of `x`, token by token. -/
theorem V_main_v2 (c : Dev nD) : V m c main_v2 = shapeCast S256x7168 (bitcastToFloat (F := Ideal) .fp8e4m3 (m ((c : Thread nD τ).loc main_arg0)) : FVec Ideal S2x128x7168 .fp8e4m3) shapeCasts_S2x128x7168_S256x7168 := by
  unfold V V0 hostOps0
  simp only [List.flatten_cons, List.flatten_nil, List.append_nil]
  after_results
  rfl

/-- In the second: the scales of `x` as a column. -/
theorem V_main_v3 (c : Dev nD) : V m c main_v3 = shapeCast S256x1 (m ((c : Thread nD τ).loc main_arg1) : FVec Ideal S2x128 .f32) shapeCasts_S2x128_S256x1 := by
  unfold V V0 hostOps0
  simp only [List.flatten_cons, List.flatten_nil, List.append_nil]
  after_results
  rfl

/-- In the third: the values of the codes of `dy`, token by token. -/
theorem V_main_v4 (c : Dev nD) : V m c main_v4 = shapeCast S256x18432 (bitcastToFloat (F := Ideal) .fp8e5m2 (m ((c : Thread nD τ).loc main_arg2)) : FVec Ideal S2x128x18432 .fp8e5m2) shapeCasts_S2x128x18432_S256x18432 := by
  unfold V V0 hostOps0
  simp only [List.flatten_cons, List.flatten_nil, List.append_nil]
  after_results
  rfl

/-- In the fourth: the scales of `dy` as a column. -/
theorem V_main_v5 (c : Dev nD) : V m c main_v5 = shapeCast S256x1 (m ((c : Thread nD τ).loc main_arg3) : FVec Ideal S2x128 .f32) shapeCasts_S2x128_S256x1 := by
  unfold V V0 hostOps0
  simp only [List.flatten_cons, List.flatten_nil, List.append_nil]
  after_results
  rfl

/-- In the sixth: the scales of `w0` as a row. -/
theorem V_main_v6 (c : Dev nD) : V m c main_v6 = shapeCast S1x7168 (m ((c : Thread nD τ).loc main_arg5) : FVec Ideal S7168 .f32) shapeCasts_S7168_S1x7168 := by
  unfold V V0 hostOps0
  simp only [List.flatten_cons, List.flatten_nil, List.append_nil]
  after_results
  rfl

/-- A matrix of 2 by 128 read as a column. -/
theorem col_apply (x : S2x128.Idx → EReal) (h : S2x128.ShapeCasts S256x1) (s : Fin 256) :
    shapeCast S256x1 x h (ix2 s 0) = fS x s := by
  refine congrArg x (Shape.reshapeEquiv_eq_of_rowMajor h ?_)
  rw [Shape.rowMajor_val_two, Shape.rowMajor_val_two]
  show s.val / 128 * 128 + s.val % 128 = s.val * 1 + 0
  omega

/-- Window 0 holds `x`. -/
theorem iblk0 (c : Dev nD) (t : Fin cfg0.N) (s : Fin 256) (i : Fin 7168) :
    iblk m c 0 t (ix2 s i) = fX (m ((c : Thread nD τ).loc main_arg0)) s i := by
  have e : V m c main_v2 (ix2 s i) = fX (m ((c : Thread nD τ).loc main_arg0)) s i := by
    rw [V_main_v2]
    pointwise
    rfl
  rw [← e]
  blk_ext [iblk, idx t]

/-- Window 1 holds the scales of `x`. -/
theorem iblk1 (c : Dev nD) (t : Fin cfg0.N) (s : Fin 256) :
    iblk m c 1 t (ix2 s 0) = fS (m ((c : Thread nD τ).loc main_arg1)) s := by
  have e : V m c main_v3 (ix2 s 0) = fS (m ((c : Thread nD τ).loc main_arg1)) s := by
    rw [V_main_v3]
    exact col_apply _ _ s
  rw [← e]
  blk_ext [iblk, idx t]

/-- Window 2 holds `dy`. -/
theorem iblk2 (c : Dev nD) (t : Fin cfg0.N) (s : Fin 256) (o : Fin 18432) :
    iblk m c 2 t (ix2 s o) = fD (m ((c : Thread nD τ).loc main_arg2)) s o := by
  have e : V m c main_v4 (ix2 s o) = fD (m ((c : Thread nD τ).loc main_arg2)) s o := by
    rw [V_main_v4]
    pointwise
    rfl
  rw [← e]
  blk_ext [iblk, idx t]

/-- Window 3 holds the scales of `dy`. -/
theorem iblk3 (c : Dev nD) (t : Fin cfg0.N) (s : Fin 256) :
    iblk m c 3 t (ix2 s 0) = fS (m ((c : Thread nD τ).loc main_arg3)) s := by
  have e : V m c main_v5 (ix2 s 0) = fS (m ((c : Thread nD τ).loc main_arg3)) s := by
    rw [V_main_v5]
    exact col_apply _ _ s
  rw [← e]
  blk_ext [iblk, idx t]

/-- Window 4 holds `w0`. -/
theorem iblk4 (c : Dev nD) (t : Fin cfg0.N) (i : Fin 7168) (o : Fin 18432) :
    iblk m c 4 t (ix2 i o) = fM (n := 7168) (k := 18432) (m ((c : Thread nD τ).loc main_arg4)) i o := by
  unfold fM
  blk_ext [iblk, V, idx t]

/-- Window 5 holds the scales of `w0`. -/
theorem iblk5 (c : Dev nD) (t : Fin cfg0.N) (i : Fin 7168) :
    iblk m c 5 t (ix2 0 i) = fV (n := 7168) (m ((c : Thread nD τ).loc main_arg5)) i := by
  have e : V m c main_v6 (ix2 0 i) = fV (n := 7168) (m ((c : Thread nD τ).loc main_arg5)) i := by
    rw [V_main_v6]
    exact Cert.KernelIdeal.Hand.row_apply _ _ i
  rw [← e]
  blk_ext [iblk, idx t]

/-- Window 6 holds `lora_a`. -/
theorem iblk6 (c : Dev nD) (t : Fin cfg0.N) (i : Fin 7168) (r : Fin 32) :
    iblk m c 6 t (ix2 i r) = fM (n := 7168) (k := 32) (m ((c : Thread nD τ).loc main_arg6)) i r := by
  unfold fM
  blk_ext [iblk, V, idx t]

/-- Window 7 holds `lora_b`. -/
theorem iblk7 (c : Dev nD) (t : Fin cfg0.N) (r : Fin 32) (o : Fin 18432) :
    iblk m c 7 t (ix2 r o) = fM (n := 32) (k := 18432) (m ((c : Thread nD τ).loc main_arg7)) r o := by
  unfold fM
  blk_ext [iblk, V, idx t]

/-- The activations the codes `arg0` stand for, by token and feature. -/
def aX (c : Dev nD) : Fin 256 → Fin 7168 → EReal := fX (m ((c : Thread nD τ).loc main_arg0))
/-- The activations' scale of each token. -/
def aSx (c : Dev nD) : Fin 256 → EReal := fS (m ((c : Thread nD τ).loc main_arg1))
/-- The output gradient the codes `arg2` stand for. -/
def aD (c : Dev nD) : Fin 256 → Fin 18432 → EReal := fD (m ((c : Thread nD τ).loc main_arg2))
/-- The gradient's scale of each token. -/
def aSd (c : Dev nD) : Fin 256 → EReal := fS (m ((c : Thread nD τ).loc main_arg3))
/-- The frozen weight. -/
def aW (c : Dev nD) : Fin 7168 → Fin 18432 → EReal := fM (n := 7168) (k := 18432) (m ((c : Thread nD τ).loc main_arg4))
/-- Its scale by row. -/
def aWs (c : Dev nD) : Fin 7168 → EReal := fV (n := 7168) (m ((c : Thread nD τ).loc main_arg5))
/-- The adapter `A`. -/
def aA (c : Dev nD) : Fin 7168 → Fin 32 → EReal := fM (n := 7168) (k := 32) (m ((c : Thread nD τ).loc main_arg6))
/-- The adapter `B`. -/
def aB (c : Dev nD) : Fin 32 → Fin 18432 → EReal := fM (n := 32) (k := 18432) (m ((c : Thread nD τ).loc main_arg7))
/-- The gradient through `B`. -/
def aT (c : Dev nD) : Fin 256 → Fin 32 → EReal := T (aD m c) (aSd m c) (aB m c)
/-- The activations through `A`. -/
def aXA (c : Dev nD) : Fin 256 → Fin 32 → EReal := XA (aX m c) (aSx m c) (aA m c)

/-- The reference's `t` from the arguments. -/
theorem t_eq (c : Dev nD) (s : Fin 256) (r : Fin 32) :
    k0_pay7 (F := Ideal) (iblk m c 2 t0_0) (iblk m c 3 t0_0) (iblk m c 7 t0_0) (ix2 s r) = aT m c s r :=
  (pay7_apply _ _ _ s r).trans (Ideal.mul_congr (Finset.sum_congr rfl fun o _ =>
    Ideal.mul_congr (iblk2 m c t0_0 s o) (iblk7 m c t0_0 r o)) (iblk3 m c t0_0 s))

/-- The reference's `xa` from the arguments. -/
theorem xa_eq (c : Dev nD) (s : Fin 256) (r : Fin 32) :
    k0_pay8 (F := Ideal) (iblk m c 0 t0_0) (iblk m c 1 t0_0) (iblk m c 6 t0_0) (ix2 s r) = aXA m c s r :=
  (pay8_apply _ _ _ s r).trans (Ideal.mul_congr (Finset.sum_congr rfl fun o _ =>
    Ideal.mul_congr (iblk0 m c t0_0 s o) (iblk6 m c t0_0 o r)) (iblk1 m c t0_0 s))

/-- Output 12 after the run: the activations through `A`. -/
theorem final12 (c : Dev nD) : (dats m 0 c).arrAt 12 cfg0.N = fun y : S256x32.Idx => aXA m c (y 0) (y 1) := by
  refine (dats m 0 c).arrAt_eq_of_after_last 12 t0_0 (by decide +kernel) _ fun j => ?_
  blk_simp
  rw [after0_12]
  frame_out
  rw [pay12_eq]
  idx_vars j
  exact xa_eq m c _ _

/-- Output 11 after the run: the gradient through `B`. -/
theorem final11 (c : Dev nD) : (dats m 0 c).arrAt 11 cfg0.N = fun y : S256x32.Idx => aT m c (y 0) (y 1) := by
  refine (dats m 0 c).arrAt_eq_of_after_last 11 t0_0 (by decide +kernel) _ fun j => ?_
  blk_simp
  rw [after0_11]
  frame_out
  idx_vars j
  exact t_eq m c _ _

/-- Output 10 after the run: the gradient of `B`. -/
theorem final10 (c : Dev nD) :
    (dats m 0 c).arrAt 10 cfg0.N = fun y : S32x18432.Idx => DB (aD m c) (aSd m c) (aXA m c) (y 0) (y 1) := by
  refine (dats m 0 c).arrAt_eq_of_after_last 10 t0_0 (by decide +kernel) _ fun j => ?_
  blk_simp
  rw [after0_10]
  frame_out
  rw [pay12_eq]
  idx_vars j
  exact (pay2_apply _ _ _ _ _).trans (Ideal.mul_congr rfl (Finset.sum_congr rfl fun s _ =>
    Ideal.mul_congr (Ideal.mul_congr (xa_eq m c s _) (iblk3 m c t0_0 s)) (iblk2 m c t0_0 s _)))

/-- Output 9 after the run: the gradient of `A`. -/
theorem final9 (c : Dev nD) :
    (dats m 0 c).arrAt 9 cfg0.N = fun y : S7168x32.Idx => DA (aX m c) (aSx m c) (aT m c) (y 0) (y 1) := by
  refine (dats m 0 c).arrAt_eq_of_after_last 9 t0_0 (by decide +kernel) _ fun j => ?_
  blk_simp
  rw [after0_9]
  frame_out
  idx_vars j
  exact (pay1_apply _ _ _ _ _ _ _).trans (Ideal.mul_congr rfl (Finset.sum_congr rfl fun s _ =>
    Ideal.mul_congr (iblk0 m c t0_0 s _) (Ideal.mul_congr (iblk1 m c t0_0 s) (t_eq m c s _))))

/-- Output 8 after the run: the gradient of the activations. -/
theorem final8 (c : Dev nD) :
    (dats m 0 c).arrAt 8 cfg0.N =
      fun y : S256x7168.Idx => DX (aD m c) (aSd m c) (aW m c) (aWs m c) (aA m c) (aT m c) (y 0) (y 1) := by
  refine (dats m 0 c).arrAt_eq_of_after_last 8 t0_0 (by decide +kernel) _ fun j => ?_
  blk_simp
  rw [after0_8]
  frame_out
  idx_vars j
  exact (pay9_apply _ _ _ _ _ _ _ _).trans (Ideal.add_congr (Ideal.mul_congr (Finset.sum_congr rfl fun o _ =>
    Ideal.mul_congr (iblk2 m c t0_0 _ o) (iblk4 m c t0_0 _ o)) (Ideal.mul_congr (iblk3 m c t0_0 _) (iblk5 m c t0_0 _)))
    (Ideal.mul_congr rfl (Finset.sum_congr rfl fun r _ => Ideal.mul_congr (t_eq m c _ r) (iblk6 m c t0_0 _ r))))

end Cert.ReferenceIdeal.Hand
end
-- ==== Proof.REnd.lean ====
/- The reference's run: the five results it ends with, as functions of the arguments. -/
module

public import proofs.«01_k».proof.Proof.RValue

@[expose] public section

set_option maxRecDepth 16384

noncomputable section

namespace Cert.ReferenceIdeal.Hand

open Cert.ReferenceIdeal.Gen
open Idealize.ShloMosaic Idealize.ShloMosaic.TcCoe Idealize.SL.Sem
open Idealize.ShloMosaic.Pipeline (Dat)
open Cert.Lora

variable (m : (ℓ : Loc nD τ sig) → Buf (Elt Ideal) ℓ)

/-- No two windows share an array. -/
theorem arr_inj : Function.Injective (Pipeline.arrRef spec0) := by decide

/-- After the region, window `w`'s array holds what the run left there. -/
theorem left (c : Dev nD) (w : Fin cfg0.W) :
    Pipeline.withArrays spec0 c (V0 m c) (fun w => (dats m 0 c).arrAt w cfg0.N) (Proc.devRef .tc (Pipeline.arrRef spec0 w)) =
      (dats m 0 c).arrAt w cfg0.N :=
  Pipeline.withArrays_arr spec0 arr_inj c (V0 m c) _ w

/-- The first result: the reshaped array of window 8. -/
theorem W_main_v8 (c : Dev nD) : Pipeline.afterTail₀ cfgs (dats m) 0 (V0 m) [hostOps1] c main_v8 =
    shapeCast S2x128x7168 ((dats m 0 c).arrAt 8 cfg0.N : FVec Ideal S256x7168 .bf16) shapeCasts_S256x7168_S2x128x7168 := by
  unfold Pipeline.afterTail₀ hostOps1
  simp only [List.flatten_cons, List.flatten_nil, List.append_nil]
  after_results
  exact congrArg (fun x : FVec Ideal S256x7168 .bf16 => shapeCast S2x128x7168 x shapeCasts_S256x7168_S2x128x7168) (left m c 8)

/-- The fourth result: the reshaped array of window 11. -/
theorem W_main_v9 (c : Dev nD) : Pipeline.afterTail₀ cfgs (dats m) 0 (V0 m) [hostOps1] c main_v9 =
    shapeCast S2x128x32 ((dats m 0 c).arrAt 11 cfg0.N : FVec Ideal S256x32 .f32) shapeCasts_S256x32_S2x128x32 := by
  unfold Pipeline.afterTail₀ hostOps1
  simp only [List.flatten_cons, List.flatten_nil, List.append_nil]
  after_results
  exact congrArg (fun x : FVec Ideal S256x32 .f32 => shapeCast S2x128x32 x shapeCasts_S256x32_S2x128x32) (left m c 11)

/-- The fifth result: the reshaped array of window 12. -/
theorem W_main_v10 (c : Dev nD) : Pipeline.afterTail₀ cfgs (dats m) 0 (V0 m) [hostOps1] c main_v10 =
    shapeCast S2x128x32 ((dats m 0 c).arrAt 12 cfg0.N : FVec Ideal S256x32 .f32) shapeCasts_S256x32_S2x128x32 := by
  unfold Pipeline.afterTail₀ hostOps1
  simp only [List.flatten_cons, List.flatten_nil, List.append_nil]
  after_results
  exact congrArg (fun x : FVec Ideal S256x32 .f32 => shapeCast S2x128x32 x shapeCasts_S256x32_S2x128x32) (left m c 12)

/-- Every run ends with the five results at their formulas and the arguments as they were. -/
theorem results (ρ : Dev nD → PrngReg) :
    θ_run defs (onTc (τ := τ) (main (F := Ideal))) ⟨m, fun _ => 0, ρ⟩ (fun r => ∀ c : Dev nD,
      r.2.mem ((c.tc : Thread nD τ).loc main_v8) = shapeCast S2x128x7168
        (fun y : S256x7168.Idx => DX (aD m c) (aSd m c) (aW m c) (aWs m c) (aA m c) (aT m c) (y 0) (y 1)) shapeCasts_S256x7168_S2x128x7168
      ∧ r.2.mem ((c.tc : Thread nD τ).loc main_v7_1) = (fun y : S7168x32.Idx => DA (aX m c) (aSx m c) (aT m c) (y 0) (y 1))
      ∧ r.2.mem ((c.tc : Thread nD τ).loc main_v7_2) = (fun y : S32x18432.Idx => DB (aD m c) (aSd m c) (aXA m c) (y 0) (y 1))
      ∧ r.2.mem ((c.tc : Thread nD τ).loc main_v9) = shapeCast S2x128x32 (fun y : S256x32.Idx => aT m c (y 0) (y 1)) shapeCasts_S256x32_S2x128x32
      ∧ r.2.mem ((c.tc : Thread nD τ).loc main_v10) = shapeCast S2x128x32 (fun y : S256x32.Idx => aXA m c (y 0) (y 1)) shapeCasts_S256x32_S2x128x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r hr c => by
    obtain ⟨hp, hu⟩ := hr
    refine ⟨?_, ?_, ?_, ?_, ?_, hu c⟩
    · refine ((hp c).2 main_v8 (by decide)).trans ((W_main_v8 m c).trans ?_)
      rw [final8 m c]
    · exact ((hp c).1 9).trans (final9 m c)
    · exact ((hp c).1 10).trans (final10 m c)
    · refine ((hp c).2 main_v9 (by decide)).trans ((W_main_v9 m c).trans ?_)
      rw [final11 m c]
    · refine ((hp c).2 main_v10 (by decide)).trans ((W_main_v10 m c).trans ?_)
      rw [final12 m c]) (θ_run_and (run_main m ρ) (unchanged m ρ))

end Cert.ReferenceIdeal.Hand
end
-- ==== Proof.Pre.lean ====
/- What the precondition says of the arguments: their values are real numbers. -/
module

public import proofs.«01_k».proof.Pre_finite
public import proofs.«01_k».proof.Proof.Math

@[expose] public section

noncomputable section

namespace Cert.Pre_finite.Hand

open Cert.Pre_finite
open Idealize.ShloMosaic Cert.Lora

/-- The side conditions the predicate states. -/
theorem facts : Facts where
  natLt_8_32 := by decide
  bcast_S_S2x128x7168 := by decide
  bcast_S_S2x128 := by decide
  bcast_S_S2x128x18432 := by decide
  bcast_S_S7168x32 := by decide
  bcast_S_S32x18432 := by decide

/-- The low seven bits of a code of the four-bit-exponent format are all set exactly at its not-a-number. -/
theorem code4 : ∀ b : BitVec 8, (b.extractLsb' 3 4).toNat = 15 ∧ (b.extractLsb' 0 3).toNat = 7 →
    b.setWidth 32 &&& 127#32 = 127#32 := by decide +kernel

/-- The exponent bits of a code of the five-bit-exponent format are all set exactly at its infinities and not-a-numbers. -/
theorem code5 : ∀ b : BitVec 8, (b.extractLsb' 2 5).toNat = 2 ^ 5 - 1 → b.setWidth 32 &&& 124#32 = 124#32 := by decide +kernel

/-- A code of the four-bit-exponent format other than its not-a-number is a real number. -/
theorem isReal4 (b : BitVec 8) (h : b.setWidth 32 &&& 127#32 ≠ 127#32) : IsReal (Ideal.ofBits .fp8e4m3 b) := by
  show IsReal (Ideal.e4m3fn b)
  unfold Ideal.e4m3fn
  dsimp only
  rw [if_neg fun h' => h (code4 b h')]
  split
  · exact ⟨_, rfl⟩
  · exact ⟨_, rfl⟩

/-- A code of the five-bit-exponent format whose exponent bits are not all set is a real number. -/
theorem isReal5 (b : BitVec 8) (h : b.setWidth 32 &&& 124#32 ≠ 124#32) : IsReal (Ideal.ofBits .fp8e5m2 b) := by
  show IsReal (Ideal.ieee 5 2 b)
  unfold Ideal.ieee
  dsimp only
  rw [if_neg fun h' => h (code5 b h')]
  split
  · exact ⟨_, rfl⟩
  · exact ⟨_, rfl⟩

/-- The 32-bit format's positive infinity. -/
theorem inf32 : Ideal.ofBits .f32 0x7F800000#32 = ⊤ := by
  show Ideal.ieee 8 23 (0x7F800000#32) = ⊤
  unfold Ideal.ieee
  dsimp only
  rw [if_pos (by decide), if_pos (by decide), if_neg (by decide)]

/-- The 16-bit format's positive infinity. -/
theorem inf16 : Ideal.ofBits .bf16 0x7F80#16 = ⊤ := by
  show Ideal.ieee 8 7 (0x7F80#16) = ⊤
  unfold Ideal.ieee
  dsimp only
  rw [if_pos (by decide), if_pos (by decide), if_neg (by decide)]

/-- A truth value's bit is one exactly where it holds. -/
theorem of_bit {b : Bool} (h : BitVec.ofBool b = 1#1) : b = true := by
  cases b
  · exact absurd h (by decide)
  · rfl

/-- A number whose absolute value lies below infinity is real. -/
theorem isReal_of_abs {x : EReal} (h : max x (-x) < ⊤) : IsReal x :=
  isReal_of_ne (fun e => by simp [e] at h) (fun e => by simp [e] at h)

variable (a0 : IVec S2x128x7168 8) (a1 : FVec Ideal S2x128 .f32) (a2 : IVec S2x128x18432 8) (a3 : FVec Ideal S2x128 .f32)
  (a4 : FVec Ideal S7168x18432 .fp8e4m3) (a5 : FVec Ideal S7168 .f32) (a6 : FVec Ideal S7168x32 .bf16) (a7 : FVec Ideal S32x18432 .bf16)

attribute [local instance] facts

/-- The first mask: the codes of the activations stand for real numbers. -/
theorem real_x (h : (fn (F := Ideal) a0 a1 a2 a3 a4 a5 a6 a7).1 = fun _ => 1#1) (y : S2x128x7168.Idx) :
    IsReal (Ideal.ofBits .fp8e4m3 (a0 y)) := by
  have e : BitVec.ofBool ((a0 y).setWidth 32 &&& 127#32 != 127#32) = 1#1 := congrFun h y
  exact isReal4 _ (bne_iff_ne.mp (of_bit e))

/-- The second mask: the scales of the activations are real. -/
theorem real_sx (h : (fn (F := Ideal) a0 a1 a2 a3 a4 a5 a6 a7).2.1 = fun _ => 1#1) (y : S2x128.Idx) :
    IsReal (a1 y) := by
  have e : BitVec.ofBool (decide (max (a1 y) (-(a1 y)) < Ideal.ofBits .f32 0x7F800000#32)) = 1#1 := congrFun h y
  rw [inf32] at e
  exact isReal_of_abs (of_decide_eq_true (of_bit e))

/-- The third mask: the codes of the output gradient stand for real numbers. -/
theorem real_d (h : (fn (F := Ideal) a0 a1 a2 a3 a4 a5 a6 a7).2.2.1 = fun _ => 1#1) (y : S2x128x18432.Idx) :
    IsReal (Ideal.ofBits .fp8e5m2 (a2 y)) := by
  have e : BitVec.ofBool ((a2 y).setWidth 32 &&& 124#32 != 124#32) = 1#1 := congrFun h y
  exact isReal5 _ (bne_iff_ne.mp (of_bit e))

/-- The fourth mask: the scales of the output gradient are real. -/
theorem real_sd (h : (fn (F := Ideal) a0 a1 a2 a3 a4 a5 a6 a7).2.2.2.1 = fun _ => 1#1) (y : S2x128.Idx) :
    IsReal (a3 y) := by
  have e : BitVec.ofBool (decide (max (a3 y) (-(a3 y)) < Ideal.ofBits .f32 0x7F800000#32)) = 1#1 := congrFun h y
  rw [inf32] at e
  exact isReal_of_abs (of_decide_eq_true (of_bit e))

/-- The fifth mask: the adapter `A` is real. -/
theorem real_a (h : (fn (F := Ideal) a0 a1 a2 a3 a4 a5 a6 a7).2.2.2.2.1 = fun _ => 1#1) (y : S7168x32.Idx) :
    IsReal (a6 y) := by
  have e : BitVec.ofBool (decide (max (a6 y) (-(a6 y)) < Ideal.ofBits .bf16 0x7F80#16)) = 1#1 := congrFun h y
  rw [inf16] at e
  exact isReal_of_abs (of_decide_eq_true (of_bit e))

/-- The sixth mask: the adapter `B` is real. -/
theorem real_b (h : (fn (F := Ideal) a0 a1 a2 a3 a4 a5 a6 a7).2.2.2.2.2 = fun _ => 1#1) (y : S32x18432.Idx) :
    IsReal (a7 y) := by
  have e : BitVec.ofBool (decide (max (a7 y) (-(a7 y)) < Ideal.ofBits .bf16 0x7F80#16)) = 1#1 := congrFun h y
  rw [inf16] at e
  exact isReal_of_abs (of_decide_eq_true (of_bit e))

end Cert.Pre_finite.Hand
end
-- ==== Proof.lean ====
module

public import proofs.«01_k».proof.Defs
public import proofs.«01_k».proof.Proof.KWords
public import proofs.«01_k».proof.Proof.KEnd
public import proofs.«01_k».proof.Proof.REnd
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem Cert.Lora

/-- The precondition makes every input the claim needs real. -/
theorem allReal (m : (ℓ : Loc Cert.KernelIdeal.nD Cert.KernelIdeal.τ Cert.KernelIdeal.sig) → Buf (Elt Ideal) ℓ)
    (h : Cert.Pre_KernelIdeal_finite (hPre_finite := Cert.Pre_finite.Hand.facts) m) (c : Dev Cert.KernelIdeal.nD) :
    Cert.KernelIdeal.Hand.AllReal m c where
  x s i := Cert.Pre_finite.Hand.real_x _ _ _ _ _ _ _ _ (h c).1 _
  sx s := Cert.Pre_finite.Hand.real_sx _ _ _ _ _ _ _ _ (h c).2.1 _
  d s o := Cert.Pre_finite.Hand.real_d _ _ _ _ _ _ _ _ (h c).2.2.1 _
  sd s := Cert.Pre_finite.Hand.real_sd _ _ _ _ _ _ _ _ (h c).2.2.2.1 _
  a i r := Cert.Pre_finite.Hand.real_a _ _ _ _ _ _ _ _ (h c).2.2.2.2.1 _
  b r o := Cert.Pre_finite.Hand.real_b _ _ _ _ _ _ _ _ (h c).2.2.2.2.2 _

/-- From equal arguments, the kernel's five results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Hand.facts) := by
  intro m g m' g' hpre hagree
  refine ⟨_, _, _, _, _, Cert.KernelIdeal.Hand.results m g (allReal m hpre),
    (θ_run _ _ _).mono (fun r hr c => ?_) (Cert.ReferenceIdeal.Hand.results m' g')⟩
  obtain ⟨h0, h1, h2, h3, h4, h5, h6, h7⟩ := hagree c
  have eX : Cert.ReferenceIdeal.Hand.aX m' c = Cert.KernelIdeal.Hand.aX m c := congrArg fX h0
  have eSx : Cert.ReferenceIdeal.Hand.aSx m' c = Cert.KernelIdeal.Hand.aSx m c := congrArg fS h1
  have eD : Cert.ReferenceIdeal.Hand.aD m' c = Cert.KernelIdeal.Hand.aD m c := congrArg fD h2
  have eSd : Cert.ReferenceIdeal.Hand.aSd m' c = Cert.KernelIdeal.Hand.aSd m c := congrArg fS h3
  have eW : Cert.ReferenceIdeal.Hand.aW m' c = Cert.KernelIdeal.Hand.aW m c := congrArg (fM (n := 7168) (k := 18432)) h4
  have eWs : Cert.ReferenceIdeal.Hand.aWs m' c = Cert.KernelIdeal.Hand.aWs m c := congrArg (fV (n := 7168)) h5
  have eA : Cert.ReferenceIdeal.Hand.aA m' c = Cert.KernelIdeal.Hand.aA m c := congrArg (fM (n := 7168) (k := 32)) h6
  have eB : Cert.ReferenceIdeal.Hand.aB m' c = Cert.KernelIdeal.Hand.aB m c := congrArg (fM (n := 32) (k := 18432)) h7
  have eT : Cert.ReferenceIdeal.Hand.aT m' c = Cert.KernelIdeal.Hand.aT m c := by
    unfold Cert.ReferenceIdeal.Hand.aT Cert.KernelIdeal.Hand.aT
    rw [eD, eSd, eB]
  have eXA : Cert.ReferenceIdeal.Hand.aXA m' c = Cert.KernelIdeal.Hand.aXA m c := by
    unfold Cert.ReferenceIdeal.Hand.aXA Cert.KernelIdeal.Hand.aXA
    rw [eX, eSx, eA]
  have h := hr c
  rw [eX, eSx, eD, eSd, eW, eWs, eA, eT, eXA] at h
  exact h

/-- Everything the certificate claims. -/
theorem claim : Cert.Claim :=
  ⟨Cert.Kernel.Gen.facts, Cert.KernelIdeal.Gen.facts, Cert.ReferenceIdeal.Gen.facts, Cert.Pre_finite.Hand.facts,
    Cert.Kernel.Hand.frame, fun m g _ => Cert.KernelIdeal.Hand.frame m g,
    fun m g _ => Cert.KernelIdeal.Hand.frame m g, fun m g _ => Cert.ReferenceIdeal.Gen.frame m g,
    fun m g _ => Cert.ReferenceIdeal.Gen.frame m g, trivial, algebraic⟩

end Cert.Proof

end
